-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x2048 : Shape := ⟨3, ![4, 4096, 2048]⟩
abbrev S2048x8x2048 : Shape := ⟨3, ![2048, 8, 2048]⟩
abbrev S32x16 : Shape := ⟨2, ![32, 16]⟩
abbrev S2x8x2048 : Shape := ⟨3, ![2, 8, 2048]⟩
abbrev S16 : Shape := ⟨1, ![16]⟩
abbrev S_ : Shape := ⟨0, ![]⟩
abbrev S1x8x2048 : Shape := ⟨3, ![1, 8, 2048]⟩
abbrev S8x2048 : Shape := ⟨2, ![8, 2048]⟩
abbrev S1x2048 : Shape := ⟨2, ![1, 2048]⟩
abbrev S2048 : Shape := ⟨1, ![2048]⟩
abbrev S1x16 : Shape := ⟨2, ![1, 16]⟩

abbrev nBuf : Table → Nat
  | .hbm => 9
  | .local .scVector .vmem => 3
  | _ => 0

abbrev bufTy : (tb : Table) → Fin (nBuf tb) → BufTy
  | .hbm, ⟨0, _⟩ => ⟨S4x4096x2048, .f32⟩
  | .hbm, ⟨1, _⟩ => ⟨S4x4096x2048, .f32⟩
  | .hbm, ⟨2, _⟩ => ⟨S2048x8x2048, .f32⟩
  | .hbm, ⟨3, _⟩ => ⟨S2048x8x2048, .f32⟩
  | .hbm, ⟨4, _⟩ => ⟨S32x16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local .scVector .vmem, ⟨0, _⟩ => ⟨S2x8x2048, .f32⟩
  | .local .scVector .vmem, ⟨1, _⟩ => ⟨S2x8x2048, .f32⟩
  | .local .scVector .vmem, ⟨2, _⟩ => ⟨S16, .f32⟩
  | _, _ => ⟨S4x4096x2048, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let c0_i32_3 : BitVec 32 := 0#32
  let c0_i32_4 : BitVec 32 := 0#32
  ![v3.toNat, 0, 0]
def k0_off1_at (r : Fin 4) : BitVec 32 :=
  if r.val < 2 then
    if r.val < 1 then
      0#32
    else
      1#32
  else
    if r.val < 3 then
      62#32
    else
      63#32
@[reducible] def k0_t1_loop : Scf.Loop 32 :=
  let c0_i32_38 : BitVec 32 := 0#32
  let c31_i32 : BitVec 32 := 31#32
  let v40 : BitVec 32 := Scalar.addi c0_i32_38 c31_i32
  let c1_i32_39 : BitVec 32 := 1#32
  ⟨c0_i32_38, v40, c1_i32_39⟩
def k0_off2 (i : grid0.Coords) (k0_t1 : Fin k0_t1_loop.trips) (c0_i32_87 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2_i32_86 : BitVec 32 := 2#32
  let c0_i32_38 : BitVec 32 := 0#32
  let c1_i32_39 : BitVec 32 := 1#32
  let arg12 : BitVec 32 := Scf.iv c0_i32_38 c1_i32_39 k0_t1
  let v92 : BitVec 32 := Scalar.muli c2_i32_86 arg12
  let v93 : BitVec 32 := Scalar.addi v92 c0_i32_87
  let v94 : BitVec 32 := Scalar.addi v2 v93
  let c0_i32_91 : BitVec 32 := 0#32
  let c0_i32_92 : BitVec 32 := 0#32
  ![v94.toNat, 0, 0]
@[reducible] def k0_t2_loop : Scf.Loop 32 :=
  let c0_i32_106 : BitVec 32 := 0#32
  let c8_i32_107 : BitVec 32 := 8#32
  let v112 : BitVec 32 := Scalar.addi c0_i32_106 c8_i32_107
  let c1_i32_108 : BitVec 32 := 1#32
  ⟨c0_i32_106, v112, c1_i32_108⟩
@[reducible] def k0_t3_loop : Scf.Loop 32 :=
  let c0_i32_174 : BitVec 32 := 0#32
  let c16_i32 : BitVec 32 := 16#32
  let v174 : BitVec 32 := Scalar.addi c0_i32_174 c16_i32
  let c1_i32_175 : BitVec 32 := 1#32
  ⟨c0_i32_174, v174, c1_i32_175⟩
def k0_off3 (k0_t2 : Fin k0_t2_loop.trips) : Fin 2 → Nat :=
  let c0_i32_106 : BitVec 32 := 0#32
  let c1_i32_108 : BitVec 32 := 1#32
  let arg21 : BitVec 32 := Scf.iv c0_i32_106 c1_i32_108 k0_t2
  let c0_i32_182 : BitVec 32 := 0#32
  ![arg21.toNat, 0]
def k0_off4 (k0_t3 : Fin k0_t3_loop.trips) (c0_i32_179 : BitVec 32) : Fin 1 → Nat :=
  let c0_i32_174 : BitVec 32 := 0#32
  let c1_i32_175 : BitVec 32 := 1#32
  let arg30 : BitVec 32 := Scf.iv c0_i32_174 c1_i32_175 k0_t3
  let c8_i32_177 : BitVec 32 := 8#32
  let v176 : BitVec 32 := Scalar.muli arg30 c8_i32_177
  let c16_i32_178 : BitVec 32 := 16#32
  let v177 : BitVec 32 := Scalar.muli v176 c16_i32_178
  let v178 : BitVec 32 := Scalar.addi v177 c0_i32_179
  let v183 : Index := Scalar.indexCast v178
  ![v183.toNat]
def k0_off5 (i : grid0.Coords) (k0_t1 : Fin k0_t1_loop.trips) (c0_i32_87 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c2_i32_86 : BitVec 32 := 2#32
  let c0_i32_38 : BitVec 32 := 0#32
  let c1_i32_39 : BitVec 32 := 1#32
  let arg12 : BitVec 32 := Scf.iv c0_i32_38 c1_i32_39 k0_t1
  let v92 : BitVec 32 := Scalar.muli c2_i32_86 arg12
  let v93 : BitVec 32 := Scalar.addi v92 c0_i32_87
  let c2_i32_110 : BitVec 32 := 2#32
  let v114 : BitVec 32 := Scalar.addi v93 c2_i32_110
  let v115 : BitVec 32 := Scalar.addi v2 v114
  let c0_i32_114 : BitVec 32 := 0#32
  let c0_i32_115 : BitVec 32 := 0#32
  ![v115.toNat, 0, 0]
@[reducible] def k0_t4_loop : Scf.Loop 32 :=
  let c0_i32_149 : BitVec 32 := 0#32
  let c8_i32_150 : BitVec 32 := 8#32
  let v153 : BitVec 32 := Scalar.addi c0_i32_149 c8_i32_150
  let c1_i32_151 : BitVec 32 := 1#32
  ⟨c0_i32_149, v153, c1_i32_151⟩
@[reducible] def k0_t5_loop : Scf.Loop 32 :=
  let c0_i32_174 : BitVec 32 := 0#32
  let c16_i32 : BitVec 32 := 16#32
  let v174 : BitVec 32 := Scalar.addi c0_i32_174 c16_i32
  let c1_i32_175 : BitVec 32 := 1#32
  ⟨c0_i32_174, v174, c1_i32_175⟩
def k0_off6 (k0_t4 : Fin k0_t4_loop.trips) : Fin 2 → Nat :=
  let c0_i32_149 : BitVec 32 := 0#32
  let c1_i32_151 : BitVec 32 := 1#32
  let arg21 : BitVec 32 := Scf.iv c0_i32_149 c1_i32_151 k0_t4
  let c0_i32_182 : BitVec 32 := 0#32
  ![arg21.toNat, 0]
def k0_off7 (k0_t5 : Fin k0_t5_loop.trips) (c0_i32_179 : BitVec 32) : Fin 1 → Nat :=
  let c0_i32_174 : BitVec 32 := 0#32
  let c1_i32_175 : BitVec 32 := 1#32
  let arg30 : BitVec 32 := Scf.iv c0_i32_174 c1_i32_175 k0_t5
  let c8_i32_177 : BitVec 32 := 8#32
  let v176 : BitVec 32 := Scalar.muli arg30 c8_i32_177
  let c16_i32_178 : BitVec 32 := 16#32
  let v177 : BitVec 32 := Scalar.muli v176 c16_i32_178
  let v178 : BitVec 32 := Scalar.addi v177 c0_i32_179
  let v183 : Index := Scalar.indexCast v178
  ![v183.toNat]
@[reducible] def k0_t6_loop : Scf.Loop 32 :=
  let c0_i32_60 : BitVec 32 := 0#32
  let c8_i32 : BitVec 32 := 8#32
  let v60 : BitVec 32 := Scalar.addi c0_i32_60 c8_i32
  let c1_i32_61 : BitVec 32 := 1#32
  ⟨c0_i32_60, v60, c1_i32_61⟩
@[reducible] def k0_t7_loop : Scf.Loop 32 :=
  let c0_i32_88 : BitVec 32 := 0#32
  let c16_i32 : BitVec 32 := 16#32
  let v92 : BitVec 32 := Scalar.addi c0_i32_88 c16_i32
  let c1_i32_89 : BitVec 32 := 1#32
  ⟨c0_i32_88, v92, c1_i32_89⟩
def k0_off8 (k0_t6 : Fin k0_t6_loop.trips) : Fin 2 → Nat :=
  let c0_i32_60 : BitVec 32 := 0#32
  let c1_i32_61 : BitVec 32 := 1#32
  let arg12 : BitVec 32 := Scf.iv c0_i32_60 c1_i32_61 k0_t6
  let c0_i32_96 : BitVec 32 := 0#32
  ![arg12.toNat, 0]
def k0_off9 (k0_t7 : Fin k0_t7_loop.trips) (c0_i32_93 : BitVec 32) : Fin 1 → Nat :=
  let c0_i32_88 : BitVec 32 := 0#32
  let c1_i32_89 : BitVec 32 := 1#32
  let arg21 : BitVec 32 := Scf.iv c0_i32_88 c1_i32_89 k0_t7
  let c8_i32_91 : BitVec 32 := 8#32
  let v94 : BitVec 32 := Scalar.muli arg21 c8_i32_91
  let c16_i32_92 : BitVec 32 := 16#32
  let v95 : BitVec 32 := Scalar.muli v94 c16_i32_92
  let v96 : BitVec 32 := Scalar.addi v95 c0_i32_93
  let v101 : Index := Scalar.indexCast v96
  ![v101.toNat]
@[reducible] def k0_t8_loop : Scf.Loop 32 :=
  let c0_i32_82 : BitVec 32 := 0#32
  let c8_i32_83 : BitVec 32 := 8#32
  let v80 : BitVec 32 := Scalar.addi c0_i32_82 c8_i32_83
  let c1_i32_84 : BitVec 32 := 1#32
  ⟨c0_i32_82, v80, c1_i32_84⟩
@[reducible] def k0_t9_loop : Scf.Loop 32 :=
  let c0_i32_88 : BitVec 32 := 0#32
  let c16_i32 : BitVec 32 := 16#32
  let v92 : BitVec 32 := Scalar.addi c0_i32_88 c16_i32
  let c1_i32_89 : BitVec 32 := 1#32
  ⟨c0_i32_88, v92, c1_i32_89⟩
def k0_off10 (k0_t8 : Fin k0_t8_loop.trips) : Fin 2 → Nat :=
  let c0_i32_82 : BitVec 32 := 0#32
  let c1_i32_84 : BitVec 32 := 1#32
  let arg12 : BitVec 32 := Scf.iv c0_i32_82 c1_i32_84 k0_t8
  let c0_i32_96 : BitVec 32 := 0#32
  ![arg12.toNat, 0]
def k0_off11 (k0_t9 : Fin k0_t9_loop.trips) (c0_i32_93 : BitVec 32) : Fin 1 → Nat :=
  let c0_i32_88 : BitVec 32 := 0#32
  let c1_i32_89 : BitVec 32 := 1#32
  let arg21 : BitVec 32 := Scf.iv c0_i32_88 c1_i32_89 k0_t9
  let c8_i32_91 : BitVec 32 := 8#32
  let v94 : BitVec 32 := Scalar.muli arg21 c8_i32_91
  let c16_i32_92 : BitVec 32 := 16#32
  let v95 : BitVec 32 := Scalar.muli v94 c16_i32_92
  let v96 : BitVec 32 := Scalar.addi v95 c0_i32_93
  let v101 : Index := Scalar.indexCast v96
  ![v101.toNat]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_86_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x4096x2048 : Shape := ⟨3, ![4, 4096, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S_, .f32⟩
  | .hbm, ⟨4, _⟩ => ⟨S4x4096x2048, .f32⟩
  | .hbm, ⟨5, _⟩ => ⟨S4x4096x2048, .i1⟩
  | .hbm, ⟨6, _⟩ => ⟨S4x4096x2048, .f32⟩
  | .hbm, ⟨7, _⟩ => ⟨S4x4096x2048, .f32⟩
  | .hbm, ⟨8, _⟩ => ⟨S4x4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.KernelIdeal.Values.lean ====
/-
  What one tile computes, as pure functions over any float instance. A tile carries eight vectors of sixteen lanes. One
  GROUP is an 8 × 2048 block of each of the two arrays; the sixteen lanes at row `r`, column `128 v + 16 u` of it go
  into vector `u`. `step8` is what one pass of the innermost loop does to the eight vectors, `rowIter` and `chunkIter`
  the two loops over one group, `grpIter` the tile's groups in order, `total8` the sum of the eight vectors at the end.
-/
module

public import proofs.«01_k».proof.Proof.Gen.KernelIdeal.Skeleton
public import proofs.«01_k».proof.Proof.Kernel.Launch
public import Idealize.ShloMosaic.Lib.Pipeline.Value

@[expose] public section

noncomputable section

namespace Cert.Proof.KernelIdeal

open Cert.KernelIdeal Cert.KernelIdeal.Gen
open Idealize.ShloMosaic

variable {F : FTy → Type} [FloatOps F]

/-- One group's block of one array. -/
abbrev Grp (F : FTy → Type) : Type := S8x2048.Idx → F .f32
/-- The eight vectors a tile carries. -/
abbrev Acc (F : FTy → Type) : Type :=
  FVec F S16 .f32 × FVec F S16 .f32 × FVec F S16 .f32 × FVec F S16 .f32 × FVec F S16 .f32 × FVec F S16 .f32 × FVec F S16 .f32 × FVec F S16 .f32

/-- The sixteen zeros. -/
def zero16 : FVec F S16 .f32 := broadcast S16 (Scalar.ofBits .f32 0x00000000#32)

/-- The masked squared difference of sixteen lanes. -/
def msq (o t : FVec F S16 .f32) : FVec F S16 .f32 :=
  mulf (select (cmpf .ogt (absf t) zero16) (subf o t) zero16) (select (cmpf .ogt (absf t) zero16) (subf o t) zero16)

/-- One vector with the masked squared difference of sixteen lanes added. -/
def vstep (a o t : FVec F S16 .f32) : FVec F S16 .f32 := addf a (msq o t)

/-- The element of a group under lane `x` of the sixteen at row `r`, column `128 v + 16 u`. -/
def cell (r : Fin 8) (v : Fin 16) (u : Fin 8) (x : S16.Idx) : S8x2048.Idx :=
  fun | 0 => r | 1 => ⟨v.val * 128 + 16 * u.val + (x 0).val, by have := (x 0).isLt; change (x 0).val < 16 at this; have := v.isLt; have := u.isLt; show _ < 2048; omega⟩
      | ⟨_ + 2, h⟩ => absurd h (Nat.not_lt.2 (Nat.le_add_left _ _))

/-- Those sixteen lanes. -/
def seg (O : Grp F) (r : Fin 8) (v : Fin 16) (u : Fin 8) : FVec F S16 .f32 := fun x => O (cell r v u x)

/-- One pass of the innermost loop: vector `u` gains the lanes at column `128 v + 16 u`. -/
def step8 (O T : Grp F) (r : Fin 8) (v : Fin 16) (a : Acc F) : Acc F :=
  (vstep a.1 (seg O r v 0) (seg T r v 0), vstep a.2.1 (seg O r v 1) (seg T r v 1), vstep a.2.2.1 (seg O r v 2) (seg T r v 2),
    vstep a.2.2.2.1 (seg O r v 3) (seg T r v 3), vstep a.2.2.2.2.1 (seg O r v 4) (seg T r v 4), vstep a.2.2.2.2.2.1 (seg O r v 5) (seg T r v 5),
    vstep a.2.2.2.2.2.2.1 (seg O r v 6) (seg T r v 6), vstep a.2.2.2.2.2.2.2 (seg O r v 7) (seg T r v 7))

/-- The first `k` column blocks of row `r`. -/
def rowIter (O T : Grp F) (r : Fin 8) (a : Acc F) : ℕ → Acc F
  | 0 => a
  | k + 1 => if h : k < 16 then step8 O T r ⟨k, h⟩ (rowIter O T r a k) else rowIter O T r a k

/-- The first `k` rows of a group. -/
def chunkIter (O T : Grp F) (a : Acc F) : ℕ → Acc F
  | 0 => a
  | k + 1 => if h : k < 8 then rowIter O T ⟨k, h⟩ (chunkIter O T a k) 16 else chunkIter O T a k

/-- One whole group. -/
def chunk (O T : Grp F) (a : Acc F) : Acc F := chunkIter O T a 8

/-- The first `k` of a tile's groups, from eight zero vectors. -/
def grpIter (O T : ℕ → Grp F) : ℕ → Acc F
  | 0 => (zero16, zero16, zero16, zero16, zero16, zero16, zero16, zero16)
  | k + 1 => chunk (O k) (T k) (grpIter O T k)

/-- Group `n` of an array. -/
def grpAt (f : S2048x8x2048.Idx → F .f32) (n : ℕ) : Grp F := fun x =>
  f (fun | 0 => Fin.ofNat 2048 n | 1 => x 0 | 2 => x 1 | ⟨_ + 3, h⟩ => absurd h (Nat.not_lt.2 (Nat.le_add_left _ _)))

/-- The sum of the eight vectors. -/
def total8 (a : Acc F) : FVec F S16 .f32 :=
  addf (addf (addf (addf (addf (addf (addf a.1 a.2.1) a.2.2.1) a.2.2.2.1) a.2.2.2.2.1) a.2.2.2.2.2.1) a.2.2.2.2.2.2.1) a.2.2.2.2.2.2.2

theorem rowIter_succ (O T : Grp F) (r : Fin 8) (a : Acc F) (k : ℕ) (h : k < 16) :
    rowIter O T r a (k + 1) = step8 O T r ⟨k, h⟩ (rowIter O T r a k) := dif_pos h
theorem chunkIter_succ (O T : Grp F) (a : Acc F) (k : ℕ) (h : k < 8) :
    chunkIter O T a (k + 1) = rowIter O T ⟨k, h⟩ (chunkIter O T a k) 16 := dif_pos h

/-! ## The printed payloads are these -/

theorem pay1_eq (a o : FVec F S16 .f32) (t : Vec F S16 .f32) : k0_pay1 a o t = vstep a o t := by
  unfold k0_pay1 vstep msq zero16; simp only [shapeCast_self]
theorem pay2_eq (a : FVec F S16 .f32) (o t : Vec F S16 .f32) : k0_pay2 a o t = vstep a o t := by
  unfold k0_pay2 vstep msq zero16; simp only [shapeCast_self]
theorem pay3_eq (a : Acc F) : k0_pay3 a.1 a.2.1 a.2.2.1 a.2.2.2.1 a.2.2.2.2.1 a.2.2.2.2.2.1 a.2.2.2.2.2.2.1 a.2.2.2.2.2.2.2 = total8 a := by
  unfold k0_pay3 total8; simp only [shapeCast_self]
theorem pay4_eq (a : FVec F S16 .f32) (o t : Vec F S16 .f32) : k0_pay4 a o t = vstep a o t := by
  unfold k0_pay4 vstep msq zero16; simp only [shapeCast_self]
theorem pay6_eq (a o : FVec F S16 .f32) (t : Vec F S16 .f32) : k0_pay6 a o t = vstep a o t := by
  unfold k0_pay6 vstep msq zero16; simp only [shapeCast_self]
theorem pay7_eq (a : FVec F S16 .f32) (o t : Vec F S16 .f32) : k0_pay7 a o t = vstep a o t := by
  unfold k0_pay7 vstep msq zero16; simp only [shapeCast_self]
theorem pay8_eq (a : FVec F S16 .f32) (o t : Vec F S16 .f32) : k0_pay8 a o t = vstep a o t := by
  unfold k0_pay8 vstep msq zero16; simp only [shapeCast_self]
theorem pay11_eq (a : FVec F S16 .f32) (o t : Vec F S16 .f32) : k0_pay11 a o t = vstep a o t := by
  unfold k0_pay11 vstep msq zero16; simp only [shapeCast_self]
theorem pay13_eq (a : FVec F S16 .f32) (o t : Vec F S16 .f32) : k0_pay13 a o t = vstep a o t := by
  unfold k0_pay13 vstep msq zero16; simp only [shapeCast_self]
theorem pay15_eq (a o : FVec F S16 .f32) (t : Vec F S16 .f32) : k0_pay15 a o t = vstep a o t := by
  unfold k0_pay15 vstep msq zero16; simp only [shapeCast_self]
theorem pay16_eq (a : FVec F S16 .f32) (o t : Vec F S16 .f32) : k0_pay16 a o t = vstep a o t := by
  unfold k0_pay16 vstep msq zero16; simp only [shapeCast_self]
theorem pay17_eq (a : FVec F S16 .f32) (o t : Vec F S16 .f32) : k0_pay17 a o t = vstep a o t := by
  unfold k0_pay17 vstep msq zero16; simp only [shapeCast_self]
theorem pay20_eq (a : FVec F S16 .f32) (o t : Vec F S16 .f32) : k0_pay20 a o t = vstep a o t := by
  unfold k0_pay20 vstep msq zero16; simp only [shapeCast_self]
theorem pay22_eq (a o : FVec F S16 .f32) (t : Vec F S16 .f32) : k0_pay22 a o t = vstep a o t := by
  unfold k0_pay22 vstep msq zero16; simp only [shapeCast_self]
theorem pay23_eq (a : FVec F S16 .f32) (o t : Vec F S16 .f32) : k0_pay23 a o t = vstep a o t := by
  unfold k0_pay23 vstep msq zero16; simp only [shapeCast_self]
theorem pay24_eq (a : FVec F S16 .f32) (o t : Vec F S16 .f32) : k0_pay24 a o t = vstep a o t := by
  unfold k0_pay24 vstep msq zero16; simp only [shapeCast_self]
theorem pay26_eq (a o : FVec F S16 .f32) (t : Vec F S16 .f32) : k0_pay26 a o t = vstep a o t := by
  unfold k0_pay26 vstep msq zero16; simp only [shapeCast_self]
theorem pay27_eq (a : FVec F S16 .f32) (o t : Vec F S16 .f32) : k0_pay27 a o t = vstep a o t := by
  unfold k0_pay27 vstep msq zero16; simp only [shapeCast_self]
theorem pay28_eq (a : FVec F S16 .f32) (o t : Vec F S16 .f32) : k0_pay28 a o t = vstep a o t := by
  unfold k0_pay28 vstep msq zero16; simp only [shapeCast_self]
theorem pay31_eq (a : FVec F S16 .f32) (o t : Vec F S16 .f32) : k0_pay31 a o t = vstep a o t := by
  unfold k0_pay31 vstep msq zero16; simp only [shapeCast_self]
theorem pay33_eq (a : FVec F S16 .f32) (o t : Vec F S16 .f32) : k0_pay33 a o t = vstep a o t := by
  unfold k0_pay33 vstep msq zero16; simp only [shapeCast_self]
theorem pay35_eq (a o : FVec F S16 .f32) (t : Vec F S16 .f32) : k0_pay35 a o t = vstep a o t := by
  unfold k0_pay35 vstep msq zero16; simp only [shapeCast_self]
theorem pay36_eq (a : FVec F S16 .f32) (o t : Vec F S16 .f32) : k0_pay36 a o t = vstep a o t := by
  unfold k0_pay36 vstep msq zero16; simp only [shapeCast_self]
theorem pay37_eq (a : FVec F S16 .f32) (o t : Vec F S16 .f32) : k0_pay37 a o t = vstep a o t := by
  unfold k0_pay37 vstep msq zero16; simp only [shapeCast_self]
theorem pay40_eq (a : FVec F S16 .f32) (o t : Vec F S16 .f32) : k0_pay40 a o t = vstep a o t := by
  unfold k0_pay40 vstep msq zero16; simp only [shapeCast_self]
theorem pay43_eq (a o : FVec F S16 .f32) (t : Vec F S16 .f32) : k0_pay43 a o t = vstep a o t := by
  unfold k0_pay43 vstep msq zero16; simp only [shapeCast_self]
theorem pay44_eq (a : FVec F S16 .f32) (o t : Vec F S16 .f32) : k0_pay44 a o t = vstep a o t := by
  unfold k0_pay44 vstep msq zero16; simp only [shapeCast_self]
theorem pay45_eq (a o : FVec F S16 .f32) (t : Vec F S16 .f32) : k0_pay45 a o t = vstep a o t := by
  unfold k0_pay45 vstep msq zero16; simp only [shapeCast_self]
theorem pay46_eq (a : FVec F S16 .f32) (o t : Vec F S16 .f32) : k0_pay46 a o t = vstep a o t := by
  unfold k0_pay46 vstep msq zero16; simp only [shapeCast_self]
theorem pay5_eq (o : Vec F S16 .f32) : k0_pay5 o = o := by
  unfold k0_pay5; simp only [shapeCast_self]
theorem pay12_eq (o : Vec F S16 .f32) : k0_pay12 o = o := by
  unfold k0_pay12; simp only [shapeCast_self]
theorem pay14_eq (o : Vec F S16 .f32) : k0_pay14 o = o := by
  unfold k0_pay14; simp only [shapeCast_self]
theorem pay21_eq (o : Vec F S16 .f32) : k0_pay21 o = o := by
  unfold k0_pay21; simp only [shapeCast_self]
theorem pay25_eq (o : Vec F S16 .f32) : k0_pay25 o = o := by
  unfold k0_pay25; simp only [shapeCast_self]
theorem pay32_eq (o : Vec F S16 .f32) : k0_pay32 o = o := by
  unfold k0_pay32; simp only [shapeCast_self]
theorem pay34_eq (o : Vec F S16 .f32) : k0_pay34 o = o := by
  unfold k0_pay34; simp only [shapeCast_self]
theorem pay41_eq (o : Vec F S16 .f32) : k0_pay41 o = o := by
  unfold k0_pay41; simp only [shapeCast_self]
theorem pay9_eq (o t : Vec F S16 .f32) : k0_pay9 o t = msq o t := by
  unfold k0_pay9 msq zero16; simp only [shapeCast_self]
theorem pay18_eq (o t : Vec F S16 .f32) : k0_pay18 o t = msq o t := by
  unfold k0_pay18 msq zero16; simp only [shapeCast_self]
theorem pay29_eq (o t : Vec F S16 .f32) : k0_pay29 o t = msq o t := by
  unfold k0_pay29 msq zero16; simp only [shapeCast_self]
theorem pay38_eq (o t : Vec F S16 .f32) : k0_pay38 o t = msq o t := by
  unfold k0_pay38 msq zero16; simp only [shapeCast_self]
theorem pay10_eq (a b : FVec F S16 .f32) : k0_pay10 a b = addf a b := rfl
theorem pay19_eq (a b : FVec F S16 .f32) : k0_pay19 a b = addf a b := rfl
theorem pay30_eq (a b : FVec F S16 .f32) : k0_pay30 a b = addf a b := rfl
theorem pay39_eq (a b : FVec F S16 .f32) : k0_pay39 a b = addf a b := rfl
theorem pay42_eq : k0_pay42 (F := F) = zero16 := rfl

end Cert.Proof.KernelIdeal

end
-- ==== Proof.KernelIdeal.Base.lean ====
/-
  The names the proof of the kernel's run is stated over: the program as the launch theorem sees it, the resource
  algebra, the memrefs of one tile, and the load lemma — what sixteen lanes of a slot of a scratch buffer read as.
-/
module

public import proofs.«01_k».proof.Defs
public import proofs.«01_k».proof.Proof.KernelIdeal.Values
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The memrefs of one tile -/

/-- The thread of the tile at coordinates `i`. -/
abbrev cV (i : grid0.Coords) : Fin τ.nSC := (i 0).castLE hcore0
abbrev jV (i : grid0.Coords) : Fin τ.nSub := (i 1).castLE hsub0
abbrev tile (d : Dev nD) (i : grid0.Coords) : Thread nD τ := V d (cV i) (jV i)

abbrev oM : Memref sig .scVector .hbm S2048x8x2048 .f32 := Memref.whole main_v0_scv
abbrev tM : Memref sig .scVector .hbm S2048x8x2048 .f32 := Memref.whole main_v1_scv
abbrev rM : Memref sig .scVector .hbm S32x16 .f32 := Memref.whole main_v2_scv
abbrev obM : Memref sig .scVector .vmem S2x8x2048 .f32 := Memref.whole cc0_scratch0
abbrev tbM : Memref sig .scVector .vmem S2x8x2048 .f32 := Memref.whole cc0_scratch1
abbrev abM : Memref sig .scVector .vmem S16 .f32 := Memref.whole cc0_scratch2

/-- The two slots of a scratch buffer, as the program slices them. -/
abbrev slot0 (M : Memref sig .scVector .vmem S2x8x2048 .f32) : Memref sig .scVector .vmem S8x2048 .f32 :=
  (M.slice (Rect.unit (s := S2x8x2048) ![0, 0, 0] S1x8x2048.size inb_S2x8x2048_S1x8x2048_0_0_0) (fun _ => rfl)).squeeze S8x2048 squeezes_S1x8x2048_S8x2048
abbrev slot1 (M : Memref sig .scVector .vmem S2x8x2048 .f32) : Memref sig .scVector .vmem S8x2048 .f32 :=
  (M.slice (Rect.unit (s := S2x8x2048) ![1, 0, 0] S1x8x2048.size inb_S2x8x2048_S1x8x2048_1_0_0) (fun _ => rfl)).squeeze S8x2048 squeezes_S1x8x2048_S8x2048

/-- A slot of a scratch buffer of the tile at `i`, held whole at contents `f`. -/
abbrev hold (d : Dev nD) (i : grid0.Coords) (s : Memref sig .scVector .vmem S8x2048 .f32) (f : Buf (Elt F) (s.view.loc (tile d i))) : sProp 𝕄 :=
  s.view.loc (tile d i) ↦[s.view.set]{fullShare} f

/-- Row `r` of a slot, as the program slices it out. -/
abbrev rowM (s : Memref sig .scVector .vmem S8x2048 .f32) (off : Fin 2 → ℕ) (h : ∀ a, off a + S1x2048.size a ≤ S8x2048.size a) : Memref sig .scVector .vmem S2048 .f32 :=
  (s.slice (Rect.unit (s := S8x2048) off S1x2048.size h) (fun _ => rfl)).squeeze S2048 squeezes_S1x2048_S2048

theorem rowM_subset (s : Memref sig .scVector .vmem S8x2048 .f32) (off : Fin 2 → ℕ) (h : ∀ a, off a + S1x2048.size a ≤ S8x2048.size a) :
    (rowM s off h).view.set ⊆ s.view.set := by
  show ((s.view.slice (Rect.unit (s := S8x2048) off S1x2048.size h)).reshape S2048 _).set ⊆ _
  rw [View.set_reshape]
  exact View.set_slice_subset _ _

/-- Sixteen lanes read through a row of a slot are the group's lanes there. -/
theorem row_load (s : Memref sig .scVector .vmem S8x2048 .f32) (g : s.view.ty.Contents (Elt F)) {off : Fin 2 → ℕ} {off2 : Fin 1 → ℕ}
    (h : ∀ a, off a + S1x2048.size a ≤ S8x2048.size a) (h2 : ∀ a, off2 a + S16.size a ≤ S2048.size a) (r : Fin 8) (v : Fin 16) (u : Fin 8)
    (e : off = ![r.val, 0]) (e2 : off2 = ![128 * v.val + 16 * u.val]) :
    (rowM s off h).view.readAt (Elt F) (Rect.unit (s := S2048) off2 S16.size h2).toLoadRect g = seg (s.view.read (Elt F) g) r v u := by
  subst e e2
  funext x
  have hx : (Shape.reshapeEquiv (s := S1x2048) (s' := S2048) squeezes_S1x2048_S2048.numel_eq ((Rect.unit (s := S2048) ![128 * v.val + 16 * u.val] S16.size h2).emb x))
      = (fun | 0 => (0 : Fin 1) | 1 => ((Rect.unit (s := S2048) ![128 * v.val + 16 * u.val] S16.size h2).emb x) 0
             | ⟨_ + 2, h⟩ => absurd h (Nat.not_lt.2 (Nat.le_add_left _ _)) : S1x2048.Idx) := by
    apply Shape.reshapeEquiv_eq_of_rowMajor
    rw [Shape.rowMajor_val_two, Shape.rowMajor_val_one]
    show 0 * 2048 + _ = _
    rw [Nat.zero_mul, Nat.zero_add]
  show s.view.read (Elt F) g ((Rect.unit (s := S8x2048) ![r.val, 0] S1x2048.size h).emb (Shape.reshapeEquiv (s := S1x2048) (s' := S2048) squeezes_S1x2048_S2048.numel_eq
    ((Rect.unit (s := S2048) ![128 * v.val + 16 * u.val] S16.size h2).emb x))) = s.view.read (Elt F) g (cell r v u x)
  rw [hx]
  congr 1
  funext a
  apply Fin.ext
  match a with
  | 0 => show r.val + 1 * 0 = r.val; omega
  | 1 => show 0 + 1 * (128 * v.val + 16 * u.val + 1 * (x 0).val) = v.val * 128 + 16 * u.val + (x 0).val; omega

end Cert.Proof.KernelIdeal

end
-- ==== Proof.KernelIdeal.Inner.lean ====
/-
  The loops over one group: what the four innermost bodies and the four loops over a group's rows do to the eight
  vectors, the two slots they read held throughout.
-/
module

public import proofs.«01_k».proof.Proof.KernelIdeal.Base

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (i : grid0.Coords)

/-- A slot of each scratch buffer, held whole. -/
abbrev slots (so st : Memref sig .scVector .vmem S8x2048 .f32) (fo : Buf (Elt F) (so.view.loc (tile d i))) (ft : Buf (Elt F) (st.view.loc (tile d i))) : sProp 𝕄 :=
  iprop(hold d i so fo ∗ hold d i st ft)

/-- Both slots held are the row `off` of each held, beside the rest of each. -/
theorem split_rows (so st : Memref sig .scVector .vmem S8x2048 .f32) (fo : Buf (Elt F) (so.view.loc (tile d i))) (ft : Buf (Elt F) (st.view.loc (tile d i)))
    (off : Fin 2 → ℕ) (h : ∀ a, off a + S1x2048.size a ≤ S8x2048.size a) :
    slots d i so st fo ft
      ⊣⊢ (iprop((so.view.loc (tile d i) ↦[(rowM so off h).view.set]{fullShare} fo) ∗ (st.view.loc (tile d i) ↦[(rowM st off h).view.set]{fullShare} ft)
          ∗ (so.view.loc (tile d i) ↦[so.view.set \ (rowM so off h).view.set]{fullShare} fo)
          ∗ st.view.loc (tile d i) ↦[st.view.set \ (rowM st off h).view.set]{fullShare} ft) : sProp 𝕄) := by
  constructor
  · iintro ⟨Ho, Ht⟩
    ihave Ho2 := (pointsTo_split_subset (rowM_subset so off h)).1 $$ Ho
    ihave Ht2 := (pointsTo_split_subset (rowM_subset st off h)).1 $$ Ht
    icases Ho2 with ⟨Ho, Hor⟩
    icases Ht2 with ⟨Ht, Htr⟩
    iframe
  · iintro ⟨Ho, Ht, Hor, Htr⟩
    isplitl [Ho Hor]
    · iapply (pointsTo_split_subset (rowM_subset so off h)).2
      isplitl [Ho]; · iexact Ho
      iexact Hor
    · iapply (pointsTo_split_subset (rowM_subset st off h)).2
      isplitl [Ht]; · iexact Ht
      iexact Htr

/-! ## The innermost bodies -/

set_option maxHeartbeats 4000000 in
/-- One pass of the main loop over slot 0: `step8` at the pass's row and column block. -/
theorem t3_step (v2 c0 c1 : BitVec 32) (t1 : Fin k0_t1_loop.trips) (b0 b1 b2 b3 b4 b5 b6 b7 : FVec F S16 .f32) (tr : Fin k0_t2_loop.trips) (tc : Fin k0_t3_loop.trips)
    (r : Fin 8) (v : Fin 16) (hr : tr.val = r.val) (hv : tc.val = v.val)
    (fo : Buf (Elt F) ((slot0 obM).view.loc (tile d i))) (ft : Buf (Elt F) ((slot0 tbM).view.loc (tile d i))) (a : Acc F) :
    slots d i (slot0 obM) (slot0 tbM) fo ft
      ⊢ wp frame (wpE (defs₀ (F := F)) 𝒱₀ (tile d i) none) Set.univ
          (k0_t3_body i oM (Memref.isWhole_whole _) tM (Memref.isWhole_whole _) rM (Memref.isWhole_whole _) obM (Memref.isWhole_whole _) tbM (Memref.isWhole_whole _)
            abM (Memref.isWhole_whole _) cc0_scratch3 cc0_scratch4 cc0_scratch5 cc0_scratch6 cc0_scoped0 v2 c0 c1 t1 b0 b1 b2 b3 b4 b5 b6 b7 tr tc a)
          fun q => iprop(slots d i (slot0 obM) (slot0 tbM) fo ft
            ∗ ⌜q = step8 ((slot0 obM).view.read (Elt F) fo) ((slot0 tbM).view.read (Elt F) ft) r v a⌝) := by
  obtain ⟨a0, a1, a2, a3, a4, a5, a6, a7⟩ := a
  have LO := fun u => row_load (F := F) (slot0 obM) fo (k0_off3_inb tr) (k0_off4_inb tc u) r v u ((k0_off3_eq tr).trans (by rw [hr])) ((k0_off4_eq tc u).trans (by rw [hv]))
  have LT := fun u => row_load (F := F) (slot0 tbM) ft (k0_off3_inb tr) (k0_off4_inb tc u) r v u ((k0_off3_eq tr).trans (by rw [hr])) ((k0_off4_eq tc u).trans (by rw [hv]))
  unfold k0_t3_body
  simp only [k0_part1_eq_skeleton, k0_part2_eq_skeleton, k0_part3_eq_skeleton, k0_part4_eq_skeleton]
  unfold k0_part1_skel k0_part2_skel k0_part3_skel k0_part4_skel
  iintro H
  ihave H := (split_rows d i (slot0 obM) (slot0 tbM) fo ft (k0_off3 tr) (k0_off3_inb tr)).1 $$ H
  icases H with ⟨Ho, Ht, Hor, Htr⟩
  repeat (sl_exec; sl_step)
  isplitl [Ho Ht Hor Htr]
  · iapply (split_rows d i (slot0 obM) (slot0 tbM) fo ft (k0_off3 tr) (k0_off3_inb tr)).2
    isplitl [Ho]; · iexact Ho
    isplitl [Ht]; · iexact Ht
    isplitl [Hor]; · iexact Hor
    iexact Htr
  ipureintro
  simp only [pay4_eq, pay5_eq, pay6_eq, pay7_eq, pay8_eq, pay9_eq, pay10_eq, pay11_eq, pay12_eq, pay22_eq, pay23_eq]
  unfold step8
  rw [← LO 0, ← LO 1, ← LO 2, ← LO 3, ← LO 4, ← LO 5, ← LO 6, ← LO 7, ← LT 0, ← LT 1, ← LT 2, ← LT 3, ← LT 4, ← LT 5, ← LT 6, ← LT 7]
  rfl

set_option maxHeartbeats 4000000 in
/-- One pass of the main loop over slot 1: `step8` at the pass's row and column block. -/
theorem t5_step (v2 : BitVec 32) (tr : Fin k0_t4_loop.trips) (tc : Fin k0_t5_loop.trips)
    (r : Fin 8) (v : Fin 16) (hr : tr.val = r.val) (hv : tc.val = v.val)
    (fo : Buf (Elt F) ((slot1 obM).view.loc (tile d i))) (ft : Buf (Elt F) ((slot1 tbM).view.loc (tile d i))) (a : Acc F) :
    slots d i (slot1 obM) (slot1 tbM) fo ft
      ⊢ wp frame (wpE (defs₀ (F := F)) 𝒱₀ (tile d i) none) Set.univ
          (k0_t5_body i oM (Memref.isWhole_whole _) tM (Memref.isWhole_whole _) rM (Memref.isWhole_whole _) obM (Memref.isWhole_whole _) tbM (Memref.isWhole_whole _)
            abM (Memref.isWhole_whole _) cc0_scratch3 cc0_scratch4 cc0_scratch5 cc0_scratch6 cc0_scoped0 v2 tr tc a)
          fun q => iprop(slots d i (slot1 obM) (slot1 tbM) fo ft
            ∗ ⌜q = step8 ((slot1 obM).view.read (Elt F) fo) ((slot1 tbM).view.read (Elt F) ft) r v a⌝) := by
  obtain ⟨a0, a1, a2, a3, a4, a5, a6, a7⟩ := a
  have LO := fun u => row_load (F := F) (slot1 obM) fo (k0_off6_inb tr) (k0_off7_inb tc u) r v u ((k0_off6_eq tr).trans (by rw [hr])) ((k0_off7_eq tc u).trans (by rw [hv]))
  have LT := fun u => row_load (F := F) (slot1 tbM) ft (k0_off6_inb tr) (k0_off7_inb tc u) r v u ((k0_off6_eq tr).trans (by rw [hr])) ((k0_off7_eq tc u).trans (by rw [hv]))
  unfold k0_t5_body
  simp only [k0_part5_eq_skeleton, k0_part6_eq_skeleton, k0_part7_eq_skeleton, k0_part8_eq_skeleton]
  unfold k0_part5_skel k0_part6_skel k0_part7_skel k0_part8_skel
  iintro H
  ihave H := (split_rows d i (slot1 obM) (slot1 tbM) fo ft (k0_off6 tr) (k0_off6_inb tr)).1 $$ H
  icases H with ⟨Ho, Ht, Hor, Htr⟩
  repeat (sl_exec; sl_step)
  isplitl [Ho Ht Hor Htr]
  · iapply (split_rows d i (slot1 obM) (slot1 tbM) fo ft (k0_off6 tr) (k0_off6_inb tr)).2
    isplitl [Ho]; · iexact Ho
    isplitl [Ht]; · iexact Ht
    isplitl [Hor]; · iexact Hor
    iexact Htr
  ipureintro
  simp only [pay13_eq, pay14_eq, pay15_eq, pay16_eq, pay17_eq, pay18_eq, pay19_eq, pay20_eq, pay21_eq, pay43_eq, pay44_eq]
  unfold step8
  rw [← LO 0, ← LO 1, ← LO 2, ← LO 3, ← LO 4, ← LO 5, ← LO 6, ← LO 7, ← LT 0, ← LT 1, ← LT 2, ← LT 3, ← LT 4, ← LT 5, ← LT 6, ← LT 7]
  rfl

set_option maxHeartbeats 4000000 in
/-- One pass of the epilogue over slot 0: `step8` at the pass's row and column block. -/
theorem t7_step (v2 : BitVec 32) (b0 b1 b2 b3 b4 b5 b6 b7 : FVec F S16 .f32) (tr : Fin k0_t6_loop.trips) (tc : Fin k0_t7_loop.trips)
    (r : Fin 8) (v : Fin 16) (hr : tr.val = r.val) (hv : tc.val = v.val)
    (fo : Buf (Elt F) ((slot0 obM).view.loc (tile d i))) (ft : Buf (Elt F) ((slot0 tbM).view.loc (tile d i))) (a : Acc F) :
    slots d i (slot0 obM) (slot0 tbM) fo ft
      ⊢ wp frame (wpE (defs₀ (F := F)) 𝒱₀ (tile d i) none) Set.univ
          (k0_t7_body i oM (Memref.isWhole_whole _) tM (Memref.isWhole_whole _) rM (Memref.isWhole_whole _) obM (Memref.isWhole_whole _) tbM (Memref.isWhole_whole _)
            abM (Memref.isWhole_whole _) cc0_scratch3 cc0_scratch4 cc0_scratch5 cc0_scratch6 cc0_scoped0 v2 b0 b1 b2 b3 b4 b5 b6 b7 tr tc a)
          fun q => iprop(slots d i (slot0 obM) (slot0 tbM) fo ft
            ∗ ⌜q = step8 ((slot0 obM).view.read (Elt F) fo) ((slot0 tbM).view.read (Elt F) ft) r v a⌝) := by
  obtain ⟨a0, a1, a2, a3, a4, a5, a6, a7⟩ := a
  have LO := fun u => row_load (F := F) (slot0 obM) fo (k0_off8_inb tr) (k0_off9_inb tc u) r v u ((k0_off8_eq tr).trans (by rw [hr])) ((k0_off9_eq tc u).trans (by rw [hv]))
  have LT := fun u => row_load (F := F) (slot0 tbM) ft (k0_off8_inb tr) (k0_off9_inb tc u) r v u ((k0_off8_eq tr).trans (by rw [hr])) ((k0_off9_eq tc u).trans (by rw [hv]))
  unfold k0_t7_body
  simp only [k0_part11_eq_skeleton, k0_part12_eq_skeleton, k0_part13_eq_skeleton, k0_part14_eq_skeleton]
  unfold k0_part11_skel k0_part12_skel k0_part13_skel k0_part14_skel
  iintro H
  ihave H := (split_rows d i (slot0 obM) (slot0 tbM) fo ft (k0_off8 tr) (k0_off8_inb tr)).1 $$ H
  icases H with ⟨Ho, Ht, Hor, Htr⟩
  repeat (sl_exec; sl_step)
  isplitl [Ho Ht Hor Htr]
  · iapply (split_rows d i (slot0 obM) (slot0 tbM) fo ft (k0_off8 tr) (k0_off8_inb tr)).2
    isplitl [Ho]; · iexact Ho
    isplitl [Ht]; · iexact Ht
    isplitl [Hor]; · iexact Hor
    iexact Htr
  ipureintro
  simp only [pay24_eq, pay25_eq, pay26_eq, pay27_eq, pay28_eq, pay29_eq, pay30_eq, pay31_eq, pay32_eq, pay45_eq, pay46_eq]
  unfold step8
  rw [← LO 0, ← LO 1, ← LO 2, ← LO 3, ← LO 4, ← LO 5, ← LO 6, ← LO 7, ← LT 0, ← LT 1, ← LT 2, ← LT 3, ← LT 4, ← LT 5, ← LT 6, ← LT 7]
  rfl

set_option maxHeartbeats 4000000 in
/-- One pass of the epilogue over slot 1: `step8` at the pass's row and column block. -/
theorem t9_step (tr : Fin k0_t8_loop.trips) (tc : Fin k0_t9_loop.trips)
    (r : Fin 8) (v : Fin 16) (hr : tr.val = r.val) (hv : tc.val = v.val)
    (fo : Buf (Elt F) ((slot1 obM).view.loc (tile d i))) (ft : Buf (Elt F) ((slot1 tbM).view.loc (tile d i))) (a : Acc F) :
    slots d i (slot1 obM) (slot1 tbM) fo ft
      ⊢ wp frame (wpE (defs₀ (F := F)) 𝒱₀ (tile d i) none) Set.univ
          (k0_t9_body i oM (Memref.isWhole_whole _) tM (Memref.isWhole_whole _) rM (Memref.isWhole_whole _) obM (Memref.isWhole_whole _) tbM (Memref.isWhole_whole _)
            abM (Memref.isWhole_whole _) cc0_scratch3 cc0_scratch4 cc0_scratch5 cc0_scratch6 cc0_scoped0 tr tc a)
          fun q => iprop(slots d i (slot1 obM) (slot1 tbM) fo ft
            ∗ ⌜q = step8 ((slot1 obM).view.read (Elt F) fo) ((slot1 tbM).view.read (Elt F) ft) r v a⌝) := by
  obtain ⟨a0, a1, a2, a3, a4, a5, a6, a7⟩ := a
  have LO := fun u => row_load (F := F) (slot1 obM) fo (k0_off10_inb tr) (k0_off11_inb tc u) r v u ((k0_off10_eq tr).trans (by rw [hr])) ((k0_off11_eq tc u).trans (by rw [hv]))
  have LT := fun u => row_load (F := F) (slot1 tbM) ft (k0_off10_inb tr) (k0_off11_inb tc u) r v u ((k0_off10_eq tr).trans (by rw [hr])) ((k0_off11_eq tc u).trans (by rw [hv]))
  unfold k0_t9_body
  simp only [k0_part15_eq_skeleton, k0_part16_eq_skeleton, k0_part17_eq_skeleton, k0_part18_eq_skeleton]
  unfold k0_part15_skel k0_part16_skel k0_part17_skel k0_part18_skel
  iintro H
  ihave H := (split_rows d i (slot1 obM) (slot1 tbM) fo ft (k0_off10 tr) (k0_off10_inb tr)).1 $$ H
  icases H with ⟨Ho, Ht, Hor, Htr⟩
  repeat (sl_exec; sl_step)
  isplitl [Ho Ht Hor Htr]
  · iapply (split_rows d i (slot1 obM) (slot1 tbM) fo ft (k0_off10 tr) (k0_off10_inb tr)).2
    isplitl [Ho]; · iexact Ho
    isplitl [Ht]; · iexact Ht
    isplitl [Hor]; · iexact Hor
    iexact Htr
  ipureintro
  simp only [pay33_eq, pay34_eq, pay35_eq, pay36_eq, pay37_eq, pay38_eq, pay39_eq, pay40_eq, pay41_eq, pay1_eq, pay2_eq]
  unfold step8
  rw [← LO 0, ← LO 1, ← LO 2, ← LO 3, ← LO 4, ← LO 5, ← LO 6, ← LO 7, ← LT 0, ← LT 1, ← LT 2, ← LT 3, ← LT 4, ← LT 5, ← LT 6, ← LT 7]
  rfl

/-! ## The loops over a group's rows -/

/-- Before trip `k` of the loop over a row's column blocks. -/
def rowInv (so st : Memref sig .scVector .vmem S8x2048 .f32) (fo : Buf (Elt F) (so.view.loc (tile d i))) (ft : Buf (Elt F) (st.view.loc (tile d i)))
    (r : Fin 8) (a : Acc F) (k : ℕ) (q : Acc F) : sProp 𝕄 :=
  iprop(slots d i so st fo ft ∗ ⌜q = rowIter (so.view.read (Elt F) fo) (st.view.read (Elt F) ft) r a k⌝)

/-- Before trip `k` of the loop over a group's rows. -/
def chunkInv (so st : Memref sig .scVector .vmem S8x2048 .f32) (fo : Buf (Elt F) (so.view.loc (tile d i))) (ft : Buf (Elt F) (st.view.loc (tile d i)))
    (a : Acc F) (k : ℕ) (q : Acc F) : sProp 𝕄 :=
  iprop(slots d i so st fo ft ∗ ⌜q = chunkIter (so.view.read (Elt F) fo) (st.view.read (Elt F) ft) a k⌝)

/-- Before the first row. -/
theorem chunkInv_init (so st : Memref sig .scVector .vmem S8x2048 .f32) (fo : Buf (Elt F) (so.view.loc (tile d i))) (ft : Buf (Elt F) (st.view.loc (tile d i)))
    (a : Acc F) : iprop(hold d i so fo ∗ hold d i st ft) ⊢ chunkInv d i so st fo ft a 0 a := by
  unfold chunkInv slots
  iintro ⟨HA, HB⟩
  isplitl [HA HB]
  · isplitl [HA]
    · iexact HA
    · iexact HB
  · ipureintro; rfl

theorem trips3 : k0_t3_loop.trips = 16 := by decide +kernel
theorem trips2 : k0_t2_loop.trips = 8 := by decide +kernel

set_option maxHeartbeats 1000000 in
/-- One row of the main loop over slot 0. -/
theorem t2_step (v2 c0 c1 : BitVec 32) (t1 : Fin k0_t1_loop.trips) (b0 b1 b2 b3 b4 b5 b6 b7 : FVec F S16 .f32) (fo : Buf (Elt F) ((slot0 obM).view.loc (tile d i))) (ft : Buf (Elt F) ((slot0 tbM).view.loc (tile d i)))
    (a : Acc F) (tr : Fin k0_t2_loop.trips) (q : Acc F) :
    chunkInv d i (slot0 obM) (slot0 tbM) fo ft a tr.val q
      ⊢ wp frame (wpE (defs₀ (F := F)) 𝒱₀ (tile d i) none) Set.univ
          (k0_t2_body i oM (Memref.isWhole_whole _) tM (Memref.isWhole_whole _) rM (Memref.isWhole_whole _) obM (Memref.isWhole_whole _) tbM (Memref.isWhole_whole _)
            abM (Memref.isWhole_whole _) cc0_scratch3 cc0_scratch4 cc0_scratch5 cc0_scratch6 cc0_scoped0 v2 c0 c1 t1 b0 b1 b2 b3 b4 b5 b6 b7 tr q)
          (chunkInv d i (slot0 obM) (slot0 tbM) fo ft a (tr.val + 1)) := by
  have ht : tr.val < 8 := Nat.lt_of_lt_of_eq tr.isLt trips2
  obtain ⟨a0, a1, a2, a3, a4, a5, a6, a7⟩ := q
  unfold k0_t2_body chunkInv
  dsimp only
  iintro ⟨H, %hq⟩
  sl_for (rowInv d i (slot0 obM) (slot0 tbM) fo ft ⟨tr.val, ht⟩ (a0, a1, a2, a3, a4, a5, a6, a7)) $$ [H]
  case region =>
    intro k acc
    have hk : k.val < 16 := Nat.lt_of_lt_of_eq k.isLt trips3
    unfold rowInv
    rw [rowIter_succ _ _ _ _ _ hk]
    iintro ⟨H, %e⟩
    subst e
    iapply (t3_step d i v2 c0 c1 t1 b0 b1 b2 b3 b4 b5 b6 b7 tr k ⟨tr.val, ht⟩ ⟨k.val, hk⟩ rfl rfl fo ft _)
    iexact H
  · unfold rowInv
    isplitl [H]; · iexact H
    ipureintro; rfl
  iintro %acc HI
  obtain ⟨c0, c1, c2, c3, c4, c5, c6, c7⟩ := acc
  unfold rowInv
  icases HI with ⟨H, %e⟩
  sl_exec
  sl_step
  isplitl [H]; · iexact H
  ipureintro
  rw [chunkIter_succ _ _ _ _ ht]
  exact e.trans (hq ▸ congrArg (rowIter _ _ _ _) trips3)

theorem trips5 : k0_t5_loop.trips = 16 := by decide +kernel
theorem trips4 : k0_t4_loop.trips = 8 := by decide +kernel

set_option maxHeartbeats 1000000 in
/-- One row of the main loop over slot 1. -/
theorem t4_step (v2 : BitVec 32) (fo : Buf (Elt F) ((slot1 obM).view.loc (tile d i))) (ft : Buf (Elt F) ((slot1 tbM).view.loc (tile d i)))
    (a : Acc F) (tr : Fin k0_t4_loop.trips) (q : Acc F) :
    chunkInv d i (slot1 obM) (slot1 tbM) fo ft a tr.val q
      ⊢ wp frame (wpE (defs₀ (F := F)) 𝒱₀ (tile d i) none) Set.univ
          (k0_t4_body i oM (Memref.isWhole_whole _) tM (Memref.isWhole_whole _) rM (Memref.isWhole_whole _) obM (Memref.isWhole_whole _) tbM (Memref.isWhole_whole _)
            abM (Memref.isWhole_whole _) cc0_scratch3 cc0_scratch4 cc0_scratch5 cc0_scratch6 cc0_scoped0 v2 tr q)
          (chunkInv d i (slot1 obM) (slot1 tbM) fo ft a (tr.val + 1)) := by
  have ht : tr.val < 8 := Nat.lt_of_lt_of_eq tr.isLt trips4
  obtain ⟨a0, a1, a2, a3, a4, a5, a6, a7⟩ := q
  unfold k0_t4_body chunkInv
  dsimp only
  iintro ⟨H, %hq⟩
  sl_for (rowInv d i (slot1 obM) (slot1 tbM) fo ft ⟨tr.val, ht⟩ (a0, a1, a2, a3, a4, a5, a6, a7)) $$ [H]
  case region =>
    intro k acc
    have hk : k.val < 16 := Nat.lt_of_lt_of_eq k.isLt trips5
    unfold rowInv
    rw [rowIter_succ _ _ _ _ _ hk]
    iintro ⟨H, %e⟩
    subst e
    iapply (t5_step d i v2 tr k ⟨tr.val, ht⟩ ⟨k.val, hk⟩ rfl rfl fo ft _)
    iexact H
  · unfold rowInv
    isplitl [H]; · iexact H
    ipureintro; rfl
  iintro %acc HI
  obtain ⟨c0, c1, c2, c3, c4, c5, c6, c7⟩ := acc
  unfold rowInv
  icases HI with ⟨H, %e⟩
  sl_exec
  sl_step
  isplitl [H]; · iexact H
  ipureintro
  rw [chunkIter_succ _ _ _ _ ht]
  exact e.trans (hq ▸ congrArg (rowIter _ _ _ _) trips5)

theorem trips7 : k0_t7_loop.trips = 16 := by decide +kernel
theorem trips6 : k0_t6_loop.trips = 8 := by decide +kernel

set_option maxHeartbeats 1000000 in
/-- One row of the epilogue over slot 0. -/
theorem t6_step (v2 : BitVec 32) (b0 b1 b2 b3 b4 b5 b6 b7 : FVec F S16 .f32) (fo : Buf (Elt F) ((slot0 obM).view.loc (tile d i))) (ft : Buf (Elt F) ((slot0 tbM).view.loc (tile d i)))
    (a : Acc F) (tr : Fin k0_t6_loop.trips) (q : Acc F) :
    chunkInv d i (slot0 obM) (slot0 tbM) fo ft a tr.val q
      ⊢ wp frame (wpE (defs₀ (F := F)) 𝒱₀ (tile d i) none) Set.univ
          (k0_t6_body i oM (Memref.isWhole_whole _) tM (Memref.isWhole_whole _) rM (Memref.isWhole_whole _) obM (Memref.isWhole_whole _) tbM (Memref.isWhole_whole _)
            abM (Memref.isWhole_whole _) cc0_scratch3 cc0_scratch4 cc0_scratch5 cc0_scratch6 cc0_scoped0 v2 b0 b1 b2 b3 b4 b5 b6 b7 tr q)
          (chunkInv d i (slot0 obM) (slot0 tbM) fo ft a (tr.val + 1)) := by
  have ht : tr.val < 8 := Nat.lt_of_lt_of_eq tr.isLt trips6
  obtain ⟨a0, a1, a2, a3, a4, a5, a6, a7⟩ := q
  unfold k0_t6_body chunkInv
  dsimp only
  iintro ⟨H, %hq⟩
  sl_for (rowInv d i (slot0 obM) (slot0 tbM) fo ft ⟨tr.val, ht⟩ (a0, a1, a2, a3, a4, a5, a6, a7)) $$ [H]
  case region =>
    intro k acc
    have hk : k.val < 16 := Nat.lt_of_lt_of_eq k.isLt trips7
    unfold rowInv
    rw [rowIter_succ _ _ _ _ _ hk]
    iintro ⟨H, %e⟩
    subst e
    iapply (t7_step d i v2 b0 b1 b2 b3 b4 b5 b6 b7 tr k ⟨tr.val, ht⟩ ⟨k.val, hk⟩ rfl rfl fo ft _)
    iexact H
  · unfold rowInv
    isplitl [H]; · iexact H
    ipureintro; rfl
  iintro %acc HI
  obtain ⟨c0, c1, c2, c3, c4, c5, c6, c7⟩ := acc
  unfold rowInv
  icases HI with ⟨H, %e⟩
  sl_exec
  sl_step
  isplitl [H]; · iexact H
  ipureintro
  rw [chunkIter_succ _ _ _ _ ht]
  exact e.trans (hq ▸ congrArg (rowIter _ _ _ _) trips7)

theorem trips9 : k0_t9_loop.trips = 16 := by decide +kernel
theorem trips8 : k0_t8_loop.trips = 8 := by decide +kernel

set_option maxHeartbeats 1000000 in
/-- One row of the epilogue over slot 1. -/
theorem t8_step (fo : Buf (Elt F) ((slot1 obM).view.loc (tile d i))) (ft : Buf (Elt F) ((slot1 tbM).view.loc (tile d i)))
    (a : Acc F) (tr : Fin k0_t8_loop.trips) (q : Acc F) :
    chunkInv d i (slot1 obM) (slot1 tbM) fo ft a tr.val q
      ⊢ wp frame (wpE (defs₀ (F := F)) 𝒱₀ (tile d i) none) Set.univ
          (k0_t8_body i oM (Memref.isWhole_whole _) tM (Memref.isWhole_whole _) rM (Memref.isWhole_whole _) obM (Memref.isWhole_whole _) tbM (Memref.isWhole_whole _)
            abM (Memref.isWhole_whole _) cc0_scratch3 cc0_scratch4 cc0_scratch5 cc0_scratch6 cc0_scoped0 tr q)
          (chunkInv d i (slot1 obM) (slot1 tbM) fo ft a (tr.val + 1)) := by
  have ht : tr.val < 8 := Nat.lt_of_lt_of_eq tr.isLt trips8
  obtain ⟨a0, a1, a2, a3, a4, a5, a6, a7⟩ := q
  unfold k0_t8_body chunkInv
  dsimp only
  iintro ⟨H, %hq⟩
  sl_for (rowInv d i (slot1 obM) (slot1 tbM) fo ft ⟨tr.val, ht⟩ (a0, a1, a2, a3, a4, a5, a6, a7)) $$ [H]
  case region =>
    intro k acc
    have hk : k.val < 16 := Nat.lt_of_lt_of_eq k.isLt trips9
    unfold rowInv
    rw [rowIter_succ _ _ _ _ _ hk]
    iintro ⟨H, %e⟩
    subst e
    iapply (t9_step d i tr k ⟨tr.val, ht⟩ ⟨k.val, hk⟩ rfl rfl fo ft _)
    iexact H
  · unfold rowInv
    isplitl [H]; · iexact H
    ipureintro; rfl
  iintro %acc HI
  obtain ⟨c0, c1, c2, c3, c4, c5, c6, c7⟩ := acc
  unfold rowInv
  icases HI with ⟨H, %e⟩
  sl_exec
  sl_step
  isplitl [H]; · iexact H
  ipureintro
  rw [chunkIter_succ _ _ _ _ ht]
  exact e.trans (hq ▸ congrArg (rowIter _ _ _ _) trips9)

end Cert.Proof.KernelIdeal

end
-- ==== Proof.KernelIdeal.Tile.lean ====
/-
  One tile's run: two groups in flight ahead of the one being read, the main loop over 31 pairs of groups, the last
  pair, and the write-out of the tile's sixteen partial sums.
-/
module

public import proofs.«01_k».proof.Proof.KernelIdeal.Inner

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (i : grid0.Coords)

/-- One group of an array, as the program slices it out. -/
abbrev winM (M : Memref sig .scVector .hbm S2048x8x2048 .f32) (off : Fin 3 → ℕ) (h : ∀ a, off a + S1x8x2048.size a ≤ S2048x8x2048.size a) : Memref sig .scVector .hbm S8x2048 .f32 :=
  (M.slice (Rect.unit (s := S2048x8x2048) off S1x8x2048.size h) (fun _ => rfl)).squeeze S8x2048 squeezes_S1x8x2048_S8x2048

/-- The tile's row of the partial sums, as the program slices it out. -/
abbrev outM (i : grid0.Coords) : Memref sig .scVector .hbm S16 .f32 :=
  (rM.slice (Rect.unit (s := S32x16) (k0_off12 i) S1x16.size (k0_off12_inb i)) (fun _ => rfl)).squeeze S16 squeezes_S1x16_S16

abbrev cell0 : SemLoc sig := SemLoc.dma cc0_scratch3.sem
abbrev cell1 : SemLoc sig := SemLoc.dma cc0_scratch4.sem
abbrev cell2 : SemLoc sig := SemLoc.dma cc0_scratch5.sem
abbrev cell3 : SemLoc sig := SemLoc.dma cc0_scratch6.sem
abbrev cell4 : SemLoc sig := SemLoc.dma cc0_scoped0.sem

/-- An array, all of it, under the share `q`. -/
abbrev arr (M : Memref sig .scVector .hbm S2048x8x2048 .f32) (q : PosShare TreeShare) (f : Buf (Elt F) (M.view.loc (tile d i))) : sProp 𝕄 :=
  M.view.loc (tile d i) ↦{q} f

/-- What a window over group `n` reads. -/
theorem win_read (M : Memref sig .scVector .hbm S2048x8x2048 .f32) (f : M.view.ty.Contents (Elt F)) (off : Fin 3 → ℕ) (h : ∀ a, off a + S1x8x2048.size a ≤ S2048x8x2048.size a)
    (n : ℕ) (e : off = ![n, 0, 0]) : (winM M off h).view.read (Elt F) f = grpAt (M.view.read (Elt F) f) n := by
  subst e
  have hn : n < 2048 := by have := h 0; change n + 1 ≤ 2048 at this; omega
  funext x
  have hx : (Shape.reshapeEquiv (s := S1x8x2048) (s' := S8x2048) squeezes_S1x8x2048_S8x2048.numel_eq x)
      = (fun | 0 => (0 : Fin 1) | 1 => x 0 | 2 => x 1 | ⟨_ + 3, h⟩ => absurd h (Nat.not_lt.2 (Nat.le_add_left _ _)) : S1x8x2048.Idx) := by
    apply Shape.reshapeEquiv_eq_of_rowMajor
    rw [Shape.rowMajor_val_three, Shape.rowMajor_val_two]
    show (0 * 8 + (x 0).val) * 2048 + (x 1).val = (x 0).val * 2048 + (x 1).val
    rw [Nat.zero_mul, Nat.zero_add]
  show M.view.read (Elt F) f ((Rect.unit (s := S2048x8x2048) ![n, 0, 0] S1x8x2048.size h).emb (Shape.reshapeEquiv (s := S1x8x2048) (s' := S8x2048) squeezes_S1x8x2048_S8x2048.numel_eq x)) = _
  rw [hx]
  unfold grpAt
  congr 1
  funext a
  apply Fin.ext
  match a with
  | 0 => show n + 1 * 0 = n % 2048; rw [Nat.mod_eq_of_lt hn]; rfl
  | 1 => show 0 + 1 * (x 0).val = (x 0).val; omega
  | 2 => show 0 + 1 * (x 1).val = (x 1).val; omega

/-- A slot reads what the last whole copy into it brought. -/
theorem read_landed (s : Memref sig .scVector .vmem S8x2048 .f32) (g : Buf (Elt F) (s.view.loc (tile d i))) (x : Grp F) (l : List (View.Piece (Elt F) S8x2048 .f32)) :
    s.view.read (Elt F) (s.view.writes (Elt F) g (⟨Rect.whole S8x2048, x⟩ :: l)) = x := by
  funext y
  have h := View.read_writes_cons_emb s.view g (Rect.whole S8x2048) x l y
  rwa [Rect.emb_whole_apply] at h

/-- A group in flight: group `n` of the array `M` on its way into the slot `s`, completing on the cell `c`, under the read token `q` of the array. -/
def fly (M : Memref sig .scVector .hbm S2048x8x2048 .f32) (s : Memref sig .scVector .vmem S8x2048 .f32) (c : SemLoc sig) (q : PosShare TreeShare)
    (f : Buf (Elt F) (M.view.loc (tile d i))) (n : ℕ) : sProp 𝕄 :=
  iprop(∃ off, ∃ h, ∃ w, ⌜s.view.read (Elt F) w = grpAt (M.view.read (Elt F) f) n⌝
    ∗ Transfers.Flight countersEmb (tile d i) c (default : HIx 1) 524288
        iprop((s.view.loc (tile d i) ↦[s.view.set]{fullShare} w) ∗ M.view.loc (tile d i) ↦[(winM M off h).view.set]{q} f)
    ∗ M.view.loc (tile d i) ↦[Finset.univ \ (winM M off h).view.set]{q} f)

theorem fly_intro (M : Memref sig .scVector .hbm S2048x8x2048 .f32) (s : Memref sig .scVector .vmem S8x2048 .f32) (c : SemLoc sig) (q : PosShare TreeShare)
    (f : Buf (Elt F) (M.view.loc (tile d i))) (n : ℕ) (off : Fin 3 → ℕ) (h : ∀ a, off a + S1x8x2048.size a ≤ S2048x8x2048.size a)
    (g : Buf (Elt F) (s.view.loc (tile d i))) (l : List (View.Piece (Elt F) S8x2048 .f32)) (e : off = ![n, 0, 0]) :
    iprop(Transfers.Flight countersEmb (tile d i) c (default : HIx 1) 524288
        iprop((s.view.loc (tile d i) ↦[s.view.set]{fullShare} s.view.writes (Elt F) g (⟨Rect.whole S8x2048, ReadAs.same.apply ((winM M off h).view.read (Elt F) f)⟩ :: l))
          ∗ M.view.loc (tile d i) ↦[(winM M off h).view.set]{q} f)
      ∗ M.view.loc (tile d i) ↦[Finset.univ \ (winM M off h).view.set]{q} f) ⊢ fly d i M s c q f n := by
  unfold fly
  iintro ⟨H, H'⟩
  iexists off; iexists h; iexists _
  isplitr [H H']
  · ipureintro
    exact (read_landed d i s g _ l).trans (win_read M f off h n e)
  · isplitl [H]
    · iexact H
    · iexact H'

/-- The tile's first group. -/
def base (i : grid0.Coords) : ℕ := 128 * (i 1).val + 64 * (i 0).val

/-- The tile's groups of an array. -/
abbrev grps (M : Memref sig .scVector .hbm S2048x8x2048 .f32) (f : Buf (Elt F) (M.view.loc (tile d i))) (k : ℕ) : Grp F :=
  grpAt (M.view.read (Elt F) f) (base i + k)

theorem off1_eq (i : grid0.Coords) : ∀ r : Fin 4, k0_off1 i (k0_off1_at r) = ![base i + ![0, 1, 62, 63] r, 0, 0] := by
  revert i; decide +kernel
theorem off5_0 (i : grid0.Coords) (t : Fin k0_t1_loop.trips) : k0_off5 i t 0#32 = ![base i + 2 * (t.val + 1), 0, 0] := by
  refine (k0_off5_eq i t 0).trans ?_
  congr 1
theorem off5_1 (i : grid0.Coords) (t : Fin k0_t1_loop.trips) : k0_off5 i t 1#32 = ![base i + (2 * (t.val + 1) + 1), 0, 0] := by
  refine (k0_off5_eq i t 1).trans ?_
  congr 1

theorem waits_insert {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with rfl | hp
  · exact Or.inr rfl
  · exact h p hp

/-- Before trip `k` of the main loop: groups `2 k` and `2 k + 1` of both arrays in flight, the eight vectors those of the groups before. -/
def mainInv (q : PosShare TreeShare) (O : CellTallies nD τ sig (HIx 1)) (W : Waits sig (HIx 1))
    (fo : Buf (Elt F) (oM.view.loc (tile d i))) (ft : Buf (Elt F) (tM.view.loc (tile d i))) (k : ℕ) (a : Acc F) : sProp 𝕄 :=
  iprop(Transfers.MayWaits (tile d i) (default : HIx 1) O
    ∗ fly d i oM (slot0 obM) cell0 (Transfers.shareTokN q 0) fo (base i + 2 * k)
    ∗ fly d i tM (slot0 tbM) cell2 (Transfers.shareTokN q 2) ft (base i + 2 * k)
    ∗ fly d i oM (slot1 obM) cell1 (Transfers.shareTokN q 1) fo (base i + (2 * k + 1))
    ∗ fly d i tM (slot1 tbM) cell3 (Transfers.shareTokN q 3) ft (base i + (2 * k + 1))
    ∗ ⌜a = grpIter (grps d i oM fo) (grps d i tM ft) (2 * k)⌝
    ∗ ∃ W', ⌜∀ p ∈ W', p ∈ W ∨ p.2 = none⌝ ∗ owes (tile d i) O W')

/-- Eight rows of each of two groups are two groups. -/
theorem two_groups (O T : ℕ → Grp F) (k : ℕ) {o0 t0 o1 t1 : Grp F} {a p u : Acc F} {n m : ℕ} (hn : n = 8) (hm : m = 8)
    (ho0 : o0 = O k) (ht0 : t0 = T k) (ho1 : o1 = O (k + 1)) (ht1 : t1 = T (k + 1))
    (ea : a = grpIter O T k) (ep : p = chunkIter o0 t0 a n) (eu : u = chunkIter o1 t1 p m) : u = grpIter O T (k + 2) := by
  subst hn hm ho0 ht0 ho1 ht1 ea ep eu; rfl

set_option maxHeartbeats 1000000 in
/-- One trip of the main loop: groups `2 k` and `2 k + 1` read, groups `2 k + 2` and `2 k + 3` on their way. -/
theorem t1_step (v2 : BitVec 32) (q : PosShare TreeShare) (O : CellTallies nD τ sig (HIx 1)) (W : Waits sig (HIx 1))
    (fo : Buf (Elt F) (oM.view.loc (tile d i))) (ft : Buf (Elt F) (tM.view.loc (tile d i))) (t1 : Fin k0_t1_loop.trips) (a : Acc F) :
    mainInv d i q O W fo ft t1.val a
      ⊢ wp frame (wpE (defs₀ (F := F)) 𝒱₀ (tile d i) none) Set.univ
          (k0_t1_body i oM (Memref.isWhole_whole _) tM (Memref.isWhole_whole _) rM (Memref.isWhole_whole _) obM (Memref.isWhole_whole _) tbM (Memref.isWhole_whole _)
            abM (Memref.isWhole_whole _) cc0_scratch3 cc0_scratch4 cc0_scratch5 cc0_scratch6 cc0_scoped0 v2 t1 a)
          (mainInv d i q O W fo ft (t1.val + 1)) := by
  obtain ⟨a0, a1, a2, a3, a4, a5, a6, a7⟩ := a
  unfold k0_t1_body
  simp only [k0_part9_eq_skeleton, k0_part10_eq_skeleton]
  unfold k0_part9_skel k0_part10_skel
  simp only [bind_assoc, pure_bind]
  unfold mainInv fly
  iintro ⟨#Hmw, ⟨%offA, %hA, %wA, %eA, HfA, HtA⟩, ⟨%offB, %hB, %wB, %eB, HfB, HtB⟩, HC, HD, %ea, %W', %hW', HO⟩
  sl_exec
  sl_for (chunkInv d i (slot0 obM) (slot0 tbM) wA wB (a0, a1, a2, a3, a4, a5, a6, a7)) $$ [HfA_dst HfB_dst]
  case region => intro tr acc; exact t2_step d i v2 _ _ t1 a0 a1 a2 a3 a4 a5 a6 a7 _ _ _ tr acc
  · iapply (chunkInv_init d i (slot0 obM) (slot0 tbM) wA wB (a0, a1, a2, a3, a4, a5, a6, a7))
    isplitl [HfA_dst]
    · iexact HfA_dst
    · iexact HfB_dst
  iintro %acc HI
  obtain ⟨p0, p1, p2, p3, p4, p5, p6, p7⟩ := acc
  unfold chunkInv slots hold
  icases HI with ⟨⟨HA, HB⟩, %ep⟩
  sl_exec (disch := exact View.amount_pos _ _ (show 0 < S8x2048.numel by decide))
  icases HC with ⟨%offC, %hC, %wC, %eC, HfC, HtC⟩
  icases HD with ⟨%offD, %hD, %wD, %eD, HfD, HtD⟩
  sl_exec
  sl_for (chunkInv d i (slot1 obM) (slot1 tbM) wC wD (p0, p1, p2, p3, p4, p5, p6, p7)) $$ [HfC_dst HfD_dst]
  case region => intro tr acc; exact t4_step d i v2 _ _ _ tr acc
  · iapply (chunkInv_init d i (slot1 obM) (slot1 tbM) wC wD (p0, p1, p2, p3, p4, p5, p6, p7))
    isplitl [HfC_dst]
    · iexact HfC_dst
    · iexact HfD_dst
  iintro %acc HI
  obtain ⟨u0, u1, u2, u3, u4, u5, u6, u7⟩ := acc
  unfold chunkInv slots hold
  icases HI with ⟨⟨HC, HD⟩, %eu⟩
  sl_exec (disch := exact View.amount_pos _ _ (show 0 < S8x2048.numel by decide))
  sl_step
  isplitl []
  · iexact Hmw
  isplitl [HfA HtA]
  · have I := fly_intro d i oM (slot0 obM) cell0 (Transfers.shareTokN q 0) fo (base i + 2 * (t1.val + 1)) (k0_off5 i t1 0#32) (k0_off5_inb i t1 0) wA [] (off5_0 i t1)
    unfold fly at I
    iapply I
    isplitl [HfA]
    · iexact HfA
    · iexact HtA
  isplitl [HfB HtB]
  · have I := fly_intro d i tM (slot0 tbM) cell2 (Transfers.shareTokN q 2) ft (base i + 2 * (t1.val + 1)) (k0_off5 i t1 0#32) (k0_off5_inb i t1 0) wB [] (off5_0 i t1)
    unfold fly at I
    iapply I
    isplitl [HfB]
    · iexact HfB
    · iexact HtB
  isplitl [HfC HtC]
  · have I := fly_intro d i oM (slot1 obM) cell1 (Transfers.shareTokN q 1) fo (base i + (2 * (t1.val + 1) + 1)) (k0_off5 i t1 1#32) (k0_off5_inb i t1 1) wC [] (off5_1 i t1)
    unfold fly at I
    iapply I
    isplitl [HfC]
    · iexact HfC
    · iexact HtC
  isplitl [HfD HtD]
  · have I := fly_intro d i tM (slot1 tbM) cell3 (Transfers.shareTokN q 3) ft (base i + (2 * (t1.val + 1) + 1)) (k0_off5 i t1 1#32) (k0_off5_inb i t1 1) wD [] (off5_1 i t1)
    unfold fly at I
    iapply I
    isplitl [HfD]
    · iexact HfD
    · iexact HtD
  isplitl []
  · ipureintro
    exact two_groups (grps d i oM fo) (grps d i tM ft) (2 * t1.val) trips2 trips4 eA eB eC eD ea ep eu
  iexists _
  isplitr [HO]
  rotate_left
  · iexact HO
  · ipureintro
    exact waits_insert (waits_insert (waits_insert (waits_insert hW')))

/-- The row of the result reads the vector stored last. -/
theorem out_read (gr : Buf (Elt F) ((outM i).view.loc (tile d i))) (ga : Buf (Elt F) (abM.view.loc (tile d i))) (x : FVec F S16 .f32) :
    (outM i).view.read (Elt F) ((outM i).view.writes (Elt F) gr [⟨Rect.whole S16, ReadAs.same.apply (abM.view.read (Elt F)
      (abM.view.writes (Elt F) ga [⟨Rect.unit (s := S16) ![0] S16.size inb_S16_S16_0, x⟩]))⟩]) = x := by
  refine (View.read_writes_whole _ _ _).trans ?_
  funext y
  have h := View.read_writes_cons_emb abM.view ga (Rect.unit (s := S16) ![0] S16.size inb_S16_S16_0) x [] y
  have hy : (Rect.unit (s := S16) ![0] S16.size inb_S16_S16_0).emb y = y := by
    funext a
    apply Fin.ext
    match a with
    | 0 => show 0 + 1 * (y 0).val = (y 0).val; omega
  rw [hy] at h
  exact h

theorem trips1 : k0_t1_loop.trips = 31 := by decide +kernel

/-- What a tile starts from: the four read tokens of the arrays, its buffers at some contents, its row of the result, its cells at zero. -/
def tilePre (q : PosShare TreeShare)
    (fo : Buf (Elt F) (oM.view.loc (tile d i))) (ft : Buf (Elt F) (tM.view.loc (tile d i)))
    (go0 : Buf (Elt F) ((slot0 obM).view.loc (tile d i))) (go1 : Buf (Elt F) ((slot1 obM).view.loc (tile d i)))
    (gt0 : Buf (Elt F) ((slot0 tbM).view.loc (tile d i))) (gt1 : Buf (Elt F) ((slot1 tbM).view.loc (tile d i)))
    (ga : Buf (Elt F) (abM.view.loc (tile d i))) (gr : Buf (Elt F) ((outM i).view.loc (tile d i))) : sProp 𝕄 :=
  iprop(arr d i oM (Transfers.shareTokN q 0) fo ∗ arr d i oM (Transfers.shareTokN q 1) fo
    ∗ arr d i tM (Transfers.shareTokN q 2) ft ∗ arr d i tM (Transfers.shareTokN q 3) ft
    ∗ hold d i (slot0 obM) go0 ∗ hold d i (slot1 obM) go1 ∗ hold d i (slot0 tbM) gt0 ∗ hold d i (slot1 tbM) gt1
    ∗ (abM.view.loc (tile d i) ↦{fullShare} ga)
    ∗ ((outM i).view.loc (tile d i) ↦[(outM i).view.set]{fullShare} gr)
    ∗ semVal (tile d i, cell0) 0 ∗ semVal (tile d i, cell1) 0 ∗ semVal (tile d i, cell2) 0 ∗ semVal (tile d i, cell3) 0 ∗ semVal (tile d i, cell4) 0)

set_option maxHeartbeats 1000000 in
/-- A tile's run: its row of the result ends at the sum of the eight vectors after the tile's 64 groups, everything else comes back. -/
theorem tile_run (q : PosShare TreeShare) (O : CellTallies nD τ sig (HIx 1)) (W : Waits sig (HIx 1))
    (fo : Buf (Elt F) (oM.view.loc (tile d i))) (ft : Buf (Elt F) (tM.view.loc (tile d i)))
    (go0 : Buf (Elt F) ((slot0 obM).view.loc (tile d i))) (go1 : Buf (Elt F) ((slot1 obM).view.loc (tile d i)))
    (gt0 : Buf (Elt F) ((slot0 tbM).view.loc (tile d i))) (gt1 : Buf (Elt F) ((slot1 tbM).view.loc (tile d i)))
    (ga : Buf (Elt F) (abM.view.loc (tile d i))) (gr : Buf (Elt F) ((outM i).view.loc (tile d i))) :
    iprop(Transfers.MayWaits (tile d i) (default : HIx 1) O ∗ tilePre d i q fo ft go0 go1 gt0 gt1 ga gr ∗ owes (tile d i) O W)
      ⊢ wp frame (wpE (defs₀ (F := F)) 𝒱₀ (tile d i) none) Set.univ
          (cc0_k i oM (Memref.isWhole_whole _) tM (Memref.isWhole_whole _) rM (Memref.isWhole_whole _) obM (Memref.isWhole_whole _) tbM (Memref.isWhole_whole _)
            abM (Memref.isWhole_whole _) cc0_scratch3 cc0_scratch4 cc0_scratch5 cc0_scratch6 cc0_scoped0)
          fun _ => iprop(∃ go0, ∃ go1, ∃ gt0, ∃ gt1, ∃ ga, ∃ gr,
            ⌜(outM i).view.read (Elt F) gr = total8 (grpIter (grps d i oM fo) (grps d i tM ft) 64)⌝
            ∗ tilePre d i q fo ft go0 go1 gt0 gt1 ga gr
            ∗ ∃ W', ⌜∀ p ∈ W', p ∈ W ∨ p.2 = none⌝ ∗ owes (tile d i) O W') := by
  simp only [cc0_k_eq_skeleton]; unfold cc0_k_skel
  simp only [k0_part19_eq_skeleton, k0_part20_eq_skeleton, k0_part21_eq_skeleton]
  unfold k0_part19_skel k0_part20_skel k0_part21_skel
  simp only [bind_assoc, pure_bind]
  unfold tilePre
  iintro ⟨#Hmw, ⟨Ho0, Ho1, Ht2, Ht3, Hb0, Hb1, Hc0, Hc1, Ha, Hr, Hs0, Hs1, Hs2, Hs3, Hs4⟩, HO⟩
  sl_exec
  sl_for (mainInv d i q O W fo ft) $$ [Ho0 Ho1 Ht2 Ht3 Hs0 Hs1 Hs2 Hs3 HO]
  case region => intro tr acc; exact t1_step d i _ q O W fo ft tr acc
  · unfold mainInv
    isplitl []
    · iexact Hmw
    isplitl [Hs0 Ho0]
    · iapply (fly_intro d i oM (slot0 obM) cell0 (Transfers.shareTokN q 0) fo (base i + 2 * 0) (k0_off1 i 0#32) _ go0 [] (off1_eq i 0))
      isplitl [Hs0]
      · iexact Hs0
      · iexact Ho0
    isplitl [Hs2 Ht2]
    · iapply (fly_intro d i tM (slot0 tbM) cell2 (Transfers.shareTokN q 2) ft (base i + 2 * 0) (k0_off1 i 0#32) _ gt0 [] (off1_eq i 0))
      isplitl [Hs2]
      · iexact Hs2
      · iexact Ht2
    isplitl [Hs1 Ho1]
    · iapply (fly_intro d i oM (slot1 obM) cell1 (Transfers.shareTokN q 1) fo (base i + (2 * 0 + 1)) (k0_off1 i 1#32) _ go1 [] (off1_eq i 1))
      isplitl [Hs1]
      · iexact Hs1
      · iexact Ho1
    isplitl [Hs3 Ht3]
    · iapply (fly_intro d i tM (slot1 tbM) cell3 (Transfers.shareTokN q 3) ft (base i + (2 * 0 + 1)) (k0_off1 i 1#32) _ gt1 [] (off1_eq i 1))
      isplitl [Hs3]
      · iexact Hs3
      · iexact Ht3
    isplitl []
    · ipureintro
      rw [pay42_eq]; rfl
    iexists _
    isplitr [HO]
    rotate_left
    · iexact HO
    · ipureintro; exact fun p hp => Or.inl hp
  iintro %acc HI
  obtain ⟨a0, a1, a2, a3, a4, a5, a6, a7⟩ := acc
  unfold mainInv
  icases HI with ⟨-, HfA, HfB, HfC, HfD, %ea, %W', %hW', HO⟩
  unfold fly
  icases HfA with ⟨%offA, %hA, %wA, %eA, HfA, HtA⟩
  icases HfB with ⟨%offB, %hB, %wB, %eB, HfB, HtB⟩
  sl_exec
  sl_for (chunkInv d i (slot0 obM) (slot0 tbM) wA wB (a0, a1, a2, a3, a4, a5, a6, a7)) $$ [HfA_dst HfB_dst]
  case region => intro tr acc; exact t6_step d i _ a0 a1 a2 a3 a4 a5 a6 a7 _ _ _ tr acc
  · iapply (chunkInv_init d i (slot0 obM) (slot0 tbM) wA wB (a0, a1, a2, a3, a4, a5, a6, a7))
    isplitl [HfA_dst]
    · iexact HfA_dst
    · iexact HfB_dst
  iintro %acc HI
  obtain ⟨p0, p1, p2, p3, p4, p5, p6, p7⟩ := acc
  unfold chunkInv slots hold
  icases HI with ⟨⟨HA, HB⟩, %ep⟩
  icases HfC with ⟨%offC, %hC, %wC, %eC, HfC, HtC⟩
  icases HfD with ⟨%offD, %hD, %wD, %eD, HfD, HtD⟩
  sl_exec
  sl_for (chunkInv d i (slot1 obM) (slot1 tbM) wC wD (p0, p1, p2, p3, p4, p5, p6, p7)) $$ [HfC_dst HfD_dst]
  case region => intro tr acc; exact t8_step d i _ _ _ tr acc
  · iapply (chunkInv_init d i (slot1 obM) (slot1 tbM) wC wD (p0, p1, p2, p3, p4, p5, p6, p7))
    isplitl [HfC_dst]
    · iexact HfC_dst
    · iexact HfD_dst
  iintro %acc HI
  obtain ⟨u0, u1, u2, u3, u4, u5, u6, u7⟩ := acc
  unfold chunkInv slots hold
  icases HI with ⟨⟨HC, HD⟩, %eu⟩
  sl_exec
  sl_step
  have ev : (u0, u1, u2, u3, u4, u5, u6, u7) = grpIter (grps d i oM fo) (grps d i tM ft) (2 * k0_t1_loop.trips + 2) :=
    two_groups (grps d i oM fo) (grps d i tM ft) (2 * k0_t1_loop.trips) trips6 trips8 eA eB eC eD ea ep eu
  rw [trips1] at ev
  iexists wA; iexists wC; iexists wB; iexists wD; iexists _; iexists _
  isplitr [HtA HfA HtB HfB HA HB HtC HfC HtD HfD HC HD Hr Ha Hs4 HO]
  rotate_left
  · isplitr [HO]
    · isplitl [HtA]
      · iexact HtA
      isplitl [HtC]
      · iexact HtC
      isplitl [HtB]
      · iexact HtB
      isplitl [HtD]
      · iexact HtD
      isplitl [HA]
      · iexact HA
      isplitl [HC]
      · iexact HC
      isplitl [HB]
      · iexact HB
      isplitl [HD]
      · iexact HD
      isplitl [Ha]
      · iexact Ha
      isplitl [Hr]
      · iexact Hr
      isplitl [HfA]
      · iexact HfA
      isplitl [HfC]
      · iexact HfC
      isplitl [HfB]
      · iexact HfB
      isplitl [HfD]
      · iexact HfD
      · iexact Hs4
    · iexists _
      isplitr [HO]
      rotate_left
      · iexact HO
      · ipureintro
        exact waits_insert (waits_insert (waits_insert (waits_insert (waits_insert hW'))))
  · ipureintro
    exact (out_read d i gr ga _).trans ((pay3_eq (u0, u1, u2, u3, u4, u5, u6, u7)).trans (congrArg total8 ev))

end Cert.Proof.KernelIdeal

end
-- ==== Proof.KernelIdeal.Payload.lean ====
/-
  What the launch hands each tile and takes back: a share of each of the two arrays, and the tile's row of the result,
  which comes back at the tile's partial sums. The tile's run (`tile_run`) over exactly that.
-/
module

public import proofs.«01_k».proof.Proof.KernelIdeal.Tile

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The arrays as the TensorCore names them -/

abbrev oLoc (d : Dev nD) : Loc nD τ sig := (SparseCore.T d).loc main_v0
abbrev tLoc (d : Dev nD) : Loc nD τ sig := (SparseCore.T d).loc main_v1
abbrev rLoc (d : Dev nD) : Loc nD τ sig := (SparseCore.T d).loc main_v2

/-- The number of the tile at coordinates `i`. -/
def wid (i : grid0.Coords) : Fin 32 := ⟨2 * (i 1).val + (i 0).val, by
  have h1 : (i 1).val < 16 := (i 1).isLt
  have h0 : (i 0).val < 2 := (i 0).isLt
  omega⟩

theorem base_eq (i : grid0.Coords) : base i = 64 * (wid i).val := by unfold base wid; dsimp only; omega

/-! ## Rows of the result, slots of a scratch buffer -/

theorem rdiv : 32 ∣ S32x16.size 0 := ⟨1, rfl⟩
abbrev rowSet (w : Fin 32) : Finset S32x16.Idx := (Rect.part (s := S32x16) (a₀ := 0) rdiv w).set
theorem rows_disjoint : ∀ i ∈ (Finset.univ : Finset (Fin 32)), ∀ j ∈ (Finset.univ : Finset (Fin 32)), i ≠ j → Disjoint (rowSet i) (rowSet j) :=
  fun _ _ _ _ h => Rect.part_disjoint rdiv h
theorem rows_cover : (Finset.univ : Finset (Fin 32)).biUnion rowSet = Finset.univ := Rect.biUnion_part rdiv

theorem outRect_eq (i : grid0.Coords) :
    Rect.unit (s := S32x16) (k0_off12 i) S1x16.size (k0_off12_inb i) = Rect.part (s := S32x16) (a₀ := 0) rdiv (wid i) := by
  unfold Rect.part Rect.block
  congr 1 <;> funext a
  · rw [k0_off12_eq]
    match a with
    | 0 => simp [Shape.partIx, Shape.partSize, wid]
    | 1 => simp [Shape.partIx, Shape.partSize]
  · match a with
    | 0 => simp [Shape.partSize]
    | 1 => simp [Shape.partSize]

theorem set_outM (i : grid0.Coords) : (outM i).view.set = rowSet (wid i) := by
  show (((View.whole main_v2_scv).slice (Rect.unit (s := S32x16) (k0_off12 i) S1x16.size (k0_off12_inb i))).reshape S16 squeezes_S1x16_S16.numel_eq).set = _
  rw [View.set_reshape, View.set_slice]
  exact Finset.map_refl.trans (congrArg (fun R : Rect S32x16 => R.set) (outRect_eq i))

theorem sdiv : 2 ∣ S2x8x2048.size 0 := ⟨1, rfl⟩
abbrev slotSet (b : Fin 2) : Finset S2x8x2048.Idx := (Rect.part (s := S2x8x2048) (a₀ := 0) sdiv b).set
theorem slots_disjoint : ∀ i ∈ (Finset.univ : Finset (Fin 2)), ∀ j ∈ (Finset.univ : Finset (Fin 2)), i ≠ j → Disjoint (slotSet i) (slotSet j) :=
  fun _ _ _ _ h => Rect.part_disjoint sdiv h
theorem slots_cover : (Finset.univ : Finset (Fin 2)).biUnion slotSet = Finset.univ := Rect.biUnion_part sdiv

theorem slotRect_eq (b : Fin 2) (h : ∀ a, ![b.val, 0, 0] a + S1x8x2048.size a ≤ S2x8x2048.size a) :
    Rect.unit (s := S2x8x2048) ![b.val, 0, 0] S1x8x2048.size h = Rect.part (s := S2x8x2048) (a₀ := 0) sdiv b := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_o0 : (slot0 obM).view.set = slotSet 0 := by
  show (((View.whole cc0_scratch0).slice (Rect.unit (s := S2x8x2048) ![0, 0, 0] S1x8x2048.size inb_S2x8x2048_S1x8x2048_0_0_0)).reshape S8x2048 squeezes_S1x8x2048_S8x2048.numel_eq).set = _
  rw [View.set_reshape, View.set_slice]
  exact Finset.map_refl.trans (congrArg (fun R : Rect S2x8x2048 => R.set) (slotRect_eq 0 _))
theorem set_o1 : (slot1 obM).view.set = slotSet 1 := by
  show (((View.whole cc0_scratch0).slice (Rect.unit (s := S2x8x2048) ![1, 0, 0] S1x8x2048.size inb_S2x8x2048_S1x8x2048_1_0_0)).reshape S8x2048 squeezes_S1x8x2048_S8x2048.numel_eq).set = _
  rw [View.set_reshape, View.set_slice]
  exact Finset.map_refl.trans (congrArg (fun R : Rect S2x8x2048 => R.set) (slotRect_eq 1 _))
theorem set_t0 : (slot0 tbM).view.set = slotSet 0 := by
  show (((View.whole cc0_scratch1).slice (Rect.unit (s := S2x8x2048) ![0, 0, 0] S1x8x2048.size inb_S2x8x2048_S1x8x2048_0_0_0)).reshape S8x2048 squeezes_S1x8x2048_S8x2048.numel_eq).set = _
  rw [View.set_reshape, View.set_slice]
  exact Finset.map_refl.trans (congrArg (fun R : Rect S2x8x2048 => R.set) (slotRect_eq 0 _))
theorem set_t1 : (slot1 tbM).view.set = slotSet 1 := by
  show (((View.whole cc0_scratch1).slice (Rect.unit (s := S2x8x2048) ![1, 0, 0] S1x8x2048.size inb_S2x8x2048_S1x8x2048_1_0_0)).reshape S8x2048 squeezes_S1x8x2048_S8x2048.numel_eq).set = _
  rw [View.set_reshape, View.set_slice]
  exact Finset.map_refl.trans (congrArg (fun R : Rect S2x8x2048 => R.set) (slotRect_eq 1 _))

theorem slots_disj : Disjoint (slotSet 0) (slotSet 1) := slots_disjoint 0 (Finset.mem_univ _) 1 (Finset.mem_univ _) (by decide)
theorem slots_union : slotSet 0 ∪ slotSet 1 = Finset.univ := by
  rw [← slots_cover, show (Finset.univ : Finset (Fin 2)) = {0, 1} by decide, Finset.biUnion_insert, Finset.singleton_biUnion]

section Splits

variable (d : Dev nD) (i : grid0.Coords)

/-- A scratch buffer held whole is its two slots, -/
theorem oSlots (f : Buf (Elt F) ((tile d i).loc cc0_scratch0)) :
    ((tile d i).loc cc0_scratch0 ↦{fullShare} f : sProp 𝕄) ⊢ iprop(hold d i (slot0 obM) f ∗ hold d i (slot1 obM) f) := by
  unfold hold
  rw [set_o0, set_o1]
  refine Entails.trans (Entails.of_eq ?_) (pointsTo_union slots_disj).1
  rw [slots_union]
theorem tSlots (f : Buf (Elt F) ((tile d i).loc cc0_scratch1)) :
    ((tile d i).loc cc0_scratch1 ↦{fullShare} f : sProp 𝕄) ⊢ iprop(hold d i (slot0 tbM) f ∗ hold d i (slot1 tbM) f) := by
  unfold hold
  rw [set_t0, set_t1]
  refine Entails.trans (Entails.of_eq ?_) (pointsTo_union slots_disj).1
  rw [slots_union]

/-- and the two slots, at whatever contents, are the buffer. -/
theorem oSlots_join (f g : Buf (Elt F) ((tile d i).loc cc0_scratch0)) :
    iprop(hold d i (slot0 obM) f ∗ hold d i (slot1 obM) g) ⊢ (iprop(∃ h, (tile d i).loc cc0_scratch0 ↦{fullShare} h) : sProp 𝕄) := by
  unfold hold
  rw [set_o0, set_o1]
  refine (pointsTo_join slots_disj).trans ?_
  rw [slots_union]
  iintro H; iexists _; iexact H
theorem tSlots_join (f g : Buf (Elt F) ((tile d i).loc cc0_scratch1)) :
    iprop(hold d i (slot0 tbM) f ∗ hold d i (slot1 tbM) g) ⊢ (iprop(∃ h, (tile d i).loc cc0_scratch1 ↦{fullShare} h) : sProp 𝕄) := by
  unfold hold
  rw [set_t0, set_t1]
  refine (pointsTo_join slots_disj).trans ?_
  rw [slots_union]
  iintro H; iexists _; iexact H

/-- A share of an array held whole, as a rest and four shares. -/
theorem fourToks {ℓ : Loc nD τ sig} (q : PosShare TreeShare) (f : Buf (Elt F) ℓ) :
    (ℓ ↦{q} f : sProp 𝕄) = iprop((ℓ ↦{Transfers.shareDrop q 4} f) ∗ (ℓ ↦{Transfers.shareTokN q 0} f) ∗ (ℓ ↦{Transfers.shareTokN q 1} f)
      ∗ (ℓ ↦{Transfers.shareTokN q 2} f) ∗ ℓ ↦{Transfers.shareTokN q 3} f) := by
  have h : (ℓ ↦{q} f : sProp 𝕄) ⊣⊢ _ := Transfers.pointsTo_toks_range (S := Finset.univ) (f := f) q 4
  refine (Entails.antisymm h.1 h.2).trans ?_
  rw [show Finset.range 4 = {0, 1, 2, 3} by decide, SparseCore.bigSep_insert' (by decide), SparseCore.bigSep_insert' (by decide),
    SparseCore.bigSep_insert' (by decide), bigSep_singleton]

end Splits

variable [FloatOps F]

/-! ## The value -/

/-- Lane `n` of a vector of sixteen. -/
def lane (n : Fin 16) : S16.Idx := fun | 0 => n

/-- The 32 × 16 partial sums: row `w` holds, in its sixteen lanes, the sum of tile `w`'s eight vectors after its groups `64 w` to `64 w + 63`. -/
def partials (o t : S2048x8x2048.Idx → F .f32) : S32x16.Idx → F .f32 := fun x =>
  total8 (grpIter (fun k => grpAt o (64 * (x 0).val + k)) (fun k => grpAt t (64 * (x 0).val + k)) 64) (lane (x 1))

/-- What tile `w` is given: a share of each array, and its row of the result. -/
abbrev goT (fo : Dev nD → S2048x8x2048.Idx → F .f32) (ft : Dev nD → S2048x8x2048.Idx → F .f32) (fr : Dev nD → S32x16.Idx → F .f32) (d : Dev nD) (w : Fin 32) : sProp 𝕄 :=
  iprop((oLoc d ↦{ShareLeaves.leaf 5 fullShare w} (fo d : Buf (Elt F) (oLoc d))) ∗ (tLoc d ↦{ShareLeaves.leaf 5 fullShare w} (ft d : Buf (Elt F) (tLoc d)))
    ∗ rLoc d ↦[rowSet w]{fullShare} (fr d : Buf (Elt F) (rLoc d)))

section Tile

variable (d : Dev nD) (i : grid0.Coords)

theorem row_emb (y : S16.Idx) : (outM i).view.emb y 0 = wid i ∧ lane ((outM i).view.emb y 1) = y := by
  have hx : (Shape.reshapeEquiv (s := S1x16) (s' := S16) squeezes_S1x16_S16.numel_eq y)
      = (fun | 0 => (0 : Fin 1) | 1 => y 0 | ⟨_ + 2, h⟩ => absurd h (Nat.not_lt.2 (Nat.le_add_left _ _)) : S1x16.Idx) := by
    apply Shape.reshapeEquiv_eq_of_rowMajor
    rw [Shape.rowMajor_val_two, Shape.rowMajor_val_one]
    show 0 * 16 + (y 0).val = (y 0).val
    omega
  have he : (outM i).view.emb y = (Rect.unit (s := S32x16) (k0_off12 i) S1x16.size (k0_off12_inb i)).emb
      (Shape.reshapeEquiv (s := S1x16) (s' := S16) squeezes_S1x16_S16.numel_eq y) := rfl
  have h12 := k0_off12_eq i
  rw [he, hx]
  constructor
  · apply Fin.ext
    show k0_off12 i 0 + 1 * 0 = 2 * (i 1).val + (i 0).val
    rw [h12]; rfl
  · funext a
    match a with
    | 0 =>
      apply Fin.ext
      show k0_off12 i 1 + 1 * (y 0).val = (y 0).val
      rw [h12]
      show 0 + 1 * (y 0).val = (y 0).val
      omega

/-- What a tile's row reads is what the whole result holds there. -/
theorem row_eq (fo : Buf (Elt F) (oLoc d)) (ft : Buf (Elt F) (tLoc d)) (gr : Buf (Elt F) ((outM i).view.loc (tile d i)))
    (h : (outM i).view.read (Elt F) gr = total8 (grpIter (grps d i oM fo) (grps d i tM ft) 64)) :
    ∀ x ∈ rowSet (wid i), (gr : Buf (Elt F) (rLoc d)) x = (partials fo ft : Buf (Elt F) (rLoc d)) x := by
  intro x hx
  rw [← set_outM] at hx
  obtain ⟨y, -, rfl⟩ := Finset.mem_map.mp hx
  obtain ⟨h0, h1⟩ := row_emb i y
  refine (congrFun h y).trans ?_
  show _ = total8 (grpIter (fun k => grpAt fo (64 * ((outM i).view.emb y 0).val + k)) (fun k => grpAt ft (64 * ((outM i).view.emb y 0).val + k)) 64)
    (lane ((outM i).view.emb y 1))
  rw [h0, h1, ← base_eq]
  rfl

theorem ownSems0_V :
    (ownSems0 (tile d i) : sProp 𝕄)
      = iprop(semVal (tile d i, cell0) 0 ∗ semVal (tile d i, cell1) 0 ∗ semVal (tile d i, cell2) 0 ∗ semVal (tile d i, cell3) 0 ∗ semVal (tile d i, cell4) 0
          ∗ bigSep ((((((ownCells (tile d i)).erase (tile d i, cell0)).erase (tile d i, cell1)).erase (tile d i, cell2)).erase (tile d i, cell3)).erase (tile d i, cell4))
              fun g => semVal g 0) := by
  have hm (c : SemLoc sig) (h : c.isScoped .scVector = true) : ((tile d i, c) : GSem nD τ sig) ∈ ownCells (tile d i) := mem_ownCells.mpr ⟨rfl, h⟩
  have hne {a b : SemLoc sig} (h : a ≠ b) : ((tile d i, a) : GSem nD τ sig) ≠ (tile d i, b) := fun e => h (congrArg Prod.snd e)
  unfold SparseCore.Cfg.ownSems0
  rw [SparseCore.bigSep_erase' (hm cell0 (by decide)),
    SparseCore.bigSep_erase' (Finset.mem_erase.mpr ⟨hne (by decide), hm cell1 (by decide)⟩),
    SparseCore.bigSep_erase' (Finset.mem_erase.mpr ⟨hne (by decide), Finset.mem_erase.mpr ⟨hne (by decide), hm cell2 (by decide)⟩⟩),
    SparseCore.bigSep_erase' (Finset.mem_erase.mpr ⟨hne (by decide), Finset.mem_erase.mpr ⟨hne (by decide), Finset.mem_erase.mpr ⟨hne (by decide), hm cell3 (by decide)⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), hm cell4 (by decide)⟩⟩⟩⟩)]

/-- The three scratch buffers are among the tile's own. -/
theorem ownBufs_V :
    (ownBufs (tile d i) : sProp 𝕄)
      = iprop((∃ f, (tile d i).loc cc0_scratch0 ↦{fullShare} f) ∗ (∃ f, (tile d i).loc cc0_scratch1 ↦{fullShare} f) ∗ (∃ f, (tile d i).loc cc0_scratch2 ↦{fullShare} f)
          ∗ bigSep ((((ownRefs (τ := τ) (.scVector (cV i) (jV i))).erase ((Proc.scVector (cV i) (jV i)).devRef cc0_scratch0)).erase
              ((Proc.scVector (cV i) (jV i)).devRef cc0_scratch1)).erase ((Proc.scVector (cV i) (jV i)).devRef cc0_scratch2))
              fun b => iprop(∃ f, ((d, b) : Loc nD τ sig) ↦{fullShare} f)) := by
  have hne {a b : Ref sig .scVector} (h : a ≠ b) : (Proc.scVector (cV i) (jV i)).devRef a ≠ (Proc.scVector (cV i) (jV i)).devRef b :=
    fun e => h (Proc.devRef_injective _ e)
  unfold SparseCore.Cfg.ownBufs
  refine (SparseCore.bigSep_erase' (SparseCore.Cfg.mem_ownRefs_of_owner (p := Proc.scVector (cV i) (jV i))
    (b := (Proc.scVector (cV i) (jV i)).devRef cc0_scratch0) rfl)).trans ?_
  rw [SparseCore.bigSep_erase' (Finset.mem_erase.mpr ⟨hne (by decide),
      SparseCore.Cfg.mem_ownRefs_of_owner (p := Proc.scVector (cV i) (jV i)) (b := (Proc.scVector (cV i) (jV i)).devRef cc0_scratch1) rfl⟩),
    SparseCore.bigSep_erase' (Finset.mem_erase.mpr ⟨hne (by decide), Finset.mem_erase.mpr ⟨hne (by decide),
      SparseCore.Cfg.mem_ownRefs_of_owner (p := Proc.scVector (cV i) (jV i)) (b := (Proc.scVector (cV i) (jV i)).devRef cc0_scratch2) rfl⟩⟩)]

set_option maxHeartbeats 1000000 in
/-- The tile's run over what the launch gives it: its row comes back at its partial sums. -/
theorem tile_body (hF : (K (F := F)).Facts) (fo : Dev nD → S2048x8x2048.Idx → F .f32) (ft : Dev nD → S2048x8x2048.Idx → F .f32) (fr : Dev nD → S32x16.Idx → F .f32)
    (O : CellTallies nD τ sig (HIx 1)) (W : Waits sig (HIx 1)) (hO : ∀ g, O g none = 0) :
    iprop(levAts (K (F := F)).L (K (F := F)).lev ∗ emp ∗ goT fo ft fr d (wid i)
        ∗ scopedBufs (tile d i) ∗ scopedSems0 (tile d i) ∗ owes (tile d i) O W)
      ⊢ wp frame (wpE (defs₀ (F := F)) 𝒱₀ (tile d i) none) Set.univ
          (cc0_k i oM (Memref.isWhole_whole _) tM (Memref.isWhole_whole _) rM (Memref.isWhole_whole _) obM (Memref.isWhole_whole _) tbM (Memref.isWhole_whole _)
            abM (Memref.isWhole_whole _) cc0_scratch3 cc0_scratch4 cc0_scratch5 cc0_scratch6 cc0_scoped0)
          fun _ => iprop(goT fo ft (fun d => partials (fo d) (ft d)) d (wid i)
            ∗ scopedBufs (tile d i) ∗ scopedSems0 (tile d i)
            ∗ ∃ W', ⌜∀ p ∈ W', p ∈ W ∨ p.2 = none⌝ ∗ owes (tile d i) O W') := by
  rw [(K (F := F)).scopedBufs_V hF d (cV i) (jV i), SparseCore.Cfg.scopedSems0_V (Val := Elt F) d (cV i) (jV i), ownSems0_V, ownBufs_V]
  unfold goT
  have ho := fourToks (F := F) (ℓ := oLoc d) (ShareLeaves.leaf 5 fullShare (wid i)) (fo d)
  have ht := fourToks (F := F) (ℓ := tLoc d) (ShareLeaves.leaf 5 fullShare (wid i)) (ft d)
  have hrow (g : Buf (Elt F) (rLoc d)) : (rLoc d ↦[rowSet (wid i)]{fullShare} g : sProp 𝕄) = ((outM i).view.loc (tile d i) ↦[(outM i).view.set]{fullShare} g) := by
    rw [set_outM]
  have hrun := tile_run d i (ShareLeaves.leaf 5 fullShare (wid i)) O W (fo d) (ft d)
  unfold tilePre at hrun
  iintro ⟨#Hlv, -, ⟨Ho, Ht, Hr⟩, ⟨⟨%fb, Hb⟩, ⟨%fc, Hc⟩, ⟨%fa, Ha⟩, Hbufs⟩, ⟨Hs0, Hs1, Hs2, Hs3, Hs4, Hsems⟩, HO⟩
  ihave Hmw := (show levAts (K (F := F)).L (K (F := F)).lev ⊢ Transfers.MayWaits (tile d i) (default : HIx 1) O from
    (K (F := F)).mayWaits_none (thr := tile d i) hO) $$ Hlv
  ihave Ho' := (Entails.of_eq ho) $$ Ho
  icases Ho' with ⟨HoR, Ho0, Ho1, Ho2, Ho3⟩
  ihave Ht' := (Entails.of_eq ht) $$ Ht
  icases Ht' with ⟨HtR, Ht0, Ht1, Ht2, Ht3⟩
  ihave Hb' := (oSlots d i fb) $$ Hb
  icases Hb' with ⟨Hb0, Hb1⟩
  ihave Hc' := (tSlots d i fc) $$ Hc
  icases Hc' with ⟨Hc0, Hc1⟩
  ihave Hr' := (Entails.of_eq (hrow _)) $$ Hr
  ihave Hrun := (hrun fb fb fc fc fa (fr d)) $$ [Hmw Ho0 Ho1 Ht2 Ht3 Hb0 Hb1 Hc0 Hc1 Ha Hr' Hs0 Hs1 Hs2 Hs3 Hs4 HO]
  · isplitl [Hmw]; · iexact Hmw
    isplitr [HO]; swap; · iexact HO
    isplitl [Ho0]; · iexact Ho0
    isplitl [Ho1]; · iexact Ho1
    isplitl [Ht2]; · iexact Ht2
    isplitl [Ht3]; · iexact Ht3
    isplitl [Hb0]; · iexact Hb0
    isplitl [Hb1]; · iexact Hb1
    isplitl [Hc0]; · iexact Hc0
    isplitl [Hc1]; · iexact Hc1
    isplitl [Ha]; · iexact Ha
    isplitl [Hr']; · iexact Hr'
    isplitl [Hs0]; · iexact Hs0
    isplitl [Hs1]; · iexact Hs1
    isplitl [Hs2]; · iexact Hs2
    isplitl [Hs3]; · iexact Hs3
    iexact Hs4
  iapply (Idealize.SL.Sem.wp_wand _ _ _) $$ Hrun
  iintro %_ ⟨%go0, %go1, %gt0, %gt1, %ga, %gr, %hr, ⟨Ho0, Ho1, Ht2, Ht3, Hb0, Hb1, Hc0, Hc1, Ha, Hr, Hs0, Hs1, Hs2, Hs3, Hs4⟩, HW⟩
  isplitl [HoR Ho0 Ho1 Ho2 Ho3 HtR Ht0 Ht1 Ht2 Ht3 Hr]
  · isplitl [HoR Ho0 Ho1 Ho2 Ho3]
    · iapply (Entails.of_eq ho.symm)
      isplitl [HoR]; · iexact HoR
      isplitl [Ho0]; · iexact Ho0
      isplitl [Ho1]; · iexact Ho1
      isplitl [Ho2]; · iexact Ho2
      iexact Ho3
    isplitl [HtR Ht0 Ht1 Ht2 Ht3]
    · iapply (Entails.of_eq ht.symm)
      isplitl [HtR]; · iexact HtR
      isplitl [Ht0]; · iexact Ht0
      isplitl [Ht1]; · iexact Ht1
      isplitl [Ht2]; · iexact Ht2
      iexact Ht3
    iapply (Entails.of_eq ((hrow gr).symm.trans (pointsTo_congr (row_eq d i (fo d) (ft d) gr hr))))
    iexact Hr
  isplitl [Hb0 Hb1 Hc0 Hc1 Ha Hbufs]
  · isplitl [Hb0 Hb1]
    · iapply (oSlots_join d i go0 go1)
      isplitl [Hb0]; · iexact Hb0
      iexact Hb1
    isplitl [Hc0 Hc1]
    · iapply (tSlots_join d i gt0 gt1)
      isplitl [Hc0]; · iexact Hc0
      iexact Hc1
    isplitl [Ha]
    · iexists _; iexact Ha
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexact HW

end Tile

end Cert.Proof.KernelIdeal

end
-- ==== Proof.KernelIdeal.Launch.lean ====
/-
  The whole program's run: the launch's obligation of each tile, what the call takes and hands back, the host's
  operations before and after it, and what the program leaves in memory.
-/
module

public import proofs.«01_k».proof.Proof.KernelIdeal.Payload

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable [FloatOps F] (m : (ℓ : Loc nD τ sig) → Buf (Elt F) ℓ) (ρ : Dev nD → PrngReg)

/-! ## The host's operations and the contents they leave -/

abbrev opO : HloOp τ sig (Elt F) := StableHlo.reshape main_arg0 main_v0 (rfl : (.f32 : EltTy) = .f32) shapeCasts_S4x4096x2048_S2048x8x2048
abbrev opT : HloOp τ sig (Elt F) := StableHlo.reshape main_arg1 main_v1 (rfl : (.f32 : EltTy) = .f32) shapeCasts_S4x4096x2048_S2048x8x2048
abbrev opZero : HloOp τ sig (Elt F) := StableHlo.nullary main_cst (constant S_ .f32 0x00000000#32)
abbrev opSum : HloOp τ sig (Elt F) := StableHlo.binary main_v2 main_cst main_v3 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev opCount : HloOp τ sig (Elt F) := StableHlo.nullary main_cst_0 (constant S_ .f32 0x4C000000#32)
abbrev opDiv : HloOp τ sig (Elt F) := StableHlo.binary main_v3 main_cst_0 main_v4 (Host.divf : (⟨S_, .f32⟩ : BufTy).Contents (Elt F) → (⟨S_, .f32⟩ : BufTy).Contents (Elt F) → (⟨S_, .f32⟩ : BufTy).Contents (Elt F))

/-- An argument under the shape the SparseCores read it by. -/
def groups (x : S4x4096x2048.Idx → F .f32) : S2048x8x2048.Idx → F .f32 := shapeCast S2048x8x2048 x shapeCasts_S4x4096x2048_S2048x8x2048

/-- The program's result of its arguments: the 32 × 16 partial sums summed, divided by the number of elements. -/
def outVal (o t : S4x4096x2048.Idx → F .f32) : S_.Idx → F .f32 :=
  Host.divf (Host.reduceAdd (partials (groups o) (groups t)) (constant S_ .f32 0x00000000#32) reducesTo_S32x16_S_d0_1 h_S_) (constant S_ .f32 0x4C000000#32)

abbrev aLoc (d : Dev nD) : Loc nD τ sig := (SparseCore.T d).loc main_arg0
abbrev bLoc (d : Dev nD) : Loc nD τ sig := (SparseCore.T d).loc main_arg1
abbrev yLoc (d : Dev nD) : Loc nD τ sig := (SparseCore.T d).loc main_v4

/-- The two arrays the call reads and the launch contents of the one it writes. -/
abbrev fO (d : Dev nD) : S2048x8x2048.Idx → F .f32 := groups (m (aLoc d))
abbrev fT (d : Dev nD) : S2048x8x2048.Idx → F .f32 := groups (m (bLoc d))
abbrev fR (d : Dev nD) : S32x16.Idx → F .f32 := m (rLoc d)
abbrev fP (d : Dev nD) : S32x16.Idx → F .f32 := partials (fO m d) (fT m d)

/-! ## What the call passes around -/

def coordsV (c : Fin (grid0.bound 0)) (s : Fin (grid0.bound 1)) : grid0.Coords :=
  fun | 0 => c | 1 => s | ⟨_ + 2, h⟩ => absurd h (Nat.not_lt.2 (Nat.le_add_left _ _))

theorem nCore_zero : (K (F := F)).nCore 0 = 2 := rfl

/-- The number of the tile at SparseCore `c`, subcore `s`. -/
def tw (c : Fin ((K (F := F)).nCore 0)) (s : Fin ((K (F := F)).nSub 0)) : Fin 32 := wid (coordsV c s)

abbrev gos (d : Dev nD) (w : Fin 32) : sProp 𝕄 := goT (fO m) (fT m) (fR m) d w
abbrev tds (d : Dev nD) (w : Fin 32) : sProp 𝕄 := goT (fO m) (fT m) (fP m) d w

/-- Each tile is given its shares and its row; a SparseCore's sequencer is given its sixteen tiles'. -/
def P : (K (F := F)).Pay (nD := nD) (Val := Elt F) (Name := ℕ) (U := UU) where
  st := fun q d c => match q with | 0 => bigSep Finset.univ fun s => gos m d (tw (F := F) c s)
  dn := fun q d c => match q with | 0 => bigSep Finset.univ fun s => tds m d (tw (F := F) c s)
  go := fun q d c s => match q with | 0 => gos m d (tw (F := F) c s)
  td := fun q d c s => match q with | 0 => tds m d (tw (F := F) c s)
  x := fun _ _ => iprop(emp)

instance P_storable : (P (F := F) m).IsStorable where
  st q d c := match q with
    | 0 => (inferInstance : BI.Storable (upEmb : UEmb _ 𝕄) (bigSep Finset.univ fun s => gos m d (tw (F := F) c s)))
  dn q d c := match q with
    | 0 => (inferInstance : BI.Storable (upEmb : UEmb _ 𝕄) (bigSep Finset.univ fun s => tds m d (tw (F := F) c s)))
  go q d c s := match q with
    | 0 => (inferInstance : BI.Storable (upEmb : UEmb _ 𝕄) (gos m d (tw (F := F) c s)))
  td q d c s := match q with
    | 0 => (inferInstance : BI.Storable (upEmb : UEmb _ 𝕄) (tds m d (tw (F := F) c s)))

theorem defs₀_vector (c : Fin τ.nSC) (s : Fin τ.nSub) :
    defs₀ (F := F) (.scVector c s) 0 ()
      = SparseCore.onTile hcore0 hsub0 (fun c s => cc0_k (coordsV c s)
          oM (Memref.isWhole_whole _) tM (Memref.isWhole_whole _) rM (Memref.isWhole_whole _) obM (Memref.isWhole_whole _) tbM (Memref.isWhole_whole _)
            abM (Memref.isWhole_whole _) cc0_scratch3 cc0_scratch4 cc0_scratch5 cc0_scratch6 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c s O W hO _ _
  simp only [show (P m).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (fO m) (fT m) (fR m) O W hO).trans (wp_mono frame _ _ fun _ => obl_post)

theorem vecSplit : (K (F := F)).VecSplit' (P m) 0 := by
  intro d c
  show (bigSep Finset.univ fun s => gos m d (tw (F := F) c s)) ⊢ |={Set.univ}=> iprop(
      (bigSep Finset.univ fun s => gos m d (tw (F := F) c s))
      ∗ ((bigSep Finset.univ fun s => tds m d (tw (F := F) c s)) -∗ bigSep Finset.univ fun s => tds m d (tw (F := F) c s)))
  iintro H; imodintro
  isplitl [H]; · iexact H
  iintro H; iexact H

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The 32 tiles' shares and rows are the arrays whole -/

theorem tiles_eq (Φ : Fin 32 → sProp 𝕄) :
    (bigSep Finset.univ fun c : Fin ((K (F := F)).nCore 0) => bigSep Finset.univ fun s : Fin ((K (F := F)).nSub 0) => Φ (tw (F := F) c s)) = bigSep Finset.univ Φ := by
  rw [bigSep_univ_equiv (finProdFinEquiv : Fin 16 × Fin 2 ≃ Fin (16 * 2)) Φ, bigSep_univ_prod]
  refine Eq.trans ?_ (BI.bigSep_univ_comm _)
  refine bigSep_congr fun c _ => bigSep_congr fun s _ => congrArg Φ (Fin.ext ?_)
  show 2 * s.val + c.val = c.val + 2 * s.val
  omega

theorem whole_eq (fo ft : Dev nD → S2048x8x2048.Idx → F .f32) (fr : Dev nD → S32x16.Idx → F .f32) (d : Dev nD) :
    (bigSep Finset.univ fun w : Fin 32 => goT fo ft fr d w)
      = iprop((oLoc d ↦{fullShare} (fo d : Buf (Elt F) (oLoc d))) ∗ (tLoc d ↦{fullShare} (ft d : Buf (Elt F) (tLoc d))) ∗ rLoc d ↦{fullShare} (fr d : Buf (Elt F) (rLoc d))) := by
  unfold goT
  rw [bigSep_sep', bigSep_sep']
  have ho : (oLoc d ↦{fullShare} (fo d : Buf (Elt F) (oLoc d)) : sProp 𝕄) = _ := ShareLeaves.pointsTo_leaves Finset.univ _ 5 fullShare
  have ht : (tLoc d ↦{fullShare} (ft d : Buf (Elt F) (tLoc d)) : sProp 𝕄) = _ := ShareLeaves.pointsTo_leaves Finset.univ _ 5 fullShare
  have hr : (rLoc d ↦{fullShare} (fr d : Buf (Elt F) (rLoc d)) : sProp 𝕄) = bigSep Finset.univ fun w : Fin 32 => rLoc d ↦[rowSet w]{fullShare} (fr d : Buf (Elt F) (rLoc d)) := by
    rw [← pointsTo_biUnion Finset.univ (ℓ := rLoc d) rowSet rows_disjoint, rows_cover]
  rw [ho, ht, hr]
  rfl

theorem st0_eq (d : Dev nD) : (bigSep Finset.univ fun c : Fin ((K (F := F)).nCore 0) => (P m).st 0 d c)
    = iprop((oLoc d ↦{fullShare} (fO m d : Buf (Elt F) (oLoc d))) ∗ (tLoc d ↦{fullShare} (fT m d : Buf (Elt F) (tLoc d))) ∗ rLoc d ↦{fullShare} (fR m d : Buf (Elt F) (rLoc d))) :=
  (tiles_eq (gos m d)).trans (whole_eq _ _ _ d)
theorem dn0_eq (d : Dev nD) : (bigSep Finset.univ fun c : Fin ((K (F := F)).nCore 0) => (P m).dn 0 d c)
    = iprop((oLoc d ↦{fullShare} (fO m d : Buf (Elt F) (oLoc d))) ∗ (tLoc d ↦{fullShare} (fT m d : Buf (Elt F) (tLoc d))) ∗ rLoc d ↦{fullShare} (fP m d : Buf (Elt F) (rLoc d))) :=
  (tiles_eq (tds m d)).trans (whole_eq _ _ _ d)

/-! ## @main on the TensorCore -/

abbrev dr (b : Ref sig .tc) : DevRef τ sig := Proc.devRef .tc b

/-- The TensorCore's arrays, all unscoped. -/
abbrev S9 : Finset (DevRef τ sig) := {dr main_v0, dr main_v1, dr main_v2, dr main_arg0, dr main_arg1, dr main_cst, dr main_v3, dr main_cst_0, dr main_v4}

/-- The contents before the call, after it, and at the end. -/
def V0 (d : Dev nD) : Valuation τ sig (Elt F) := fun b => m (d, b)
def V2 (d : Dev nD) : Valuation τ sig (Elt F) := opT.result (opO.result (V0 m d))
def V3 (d : Dev nD) : Valuation τ sig (Elt F) := Function.update (V2 m d) (dr main_v2) (fP m d : Buf (Elt F) (rLoc d))
def V7 (d : Dev nD) : Valuation τ sig (Elt F) := opDiv.result (opCount.result (opSum.result (opZero.result (V3 m d))))

theorem held_S9 (d : Dev nD) (W : Valuation τ sig (Elt F)) :
    (held (T d) S9 W : sProp 𝕄) = iprop((oLoc d ↦{fullShare} W (dr main_v0)) ∗ (tLoc d ↦{fullShare} W (dr main_v1)) ∗ (rLoc d ↦{fullShare} W (dr main_v2))
      ∗ held (T d) (S9 \ {dr main_v0, dr main_v1, dr main_v2}) W) := by
  unfold held
  rw [show S9 = insert (dr main_v0) (insert (dr main_v1) (insert (dr main_v2) (S9 \ {dr main_v0, dr main_v1, dr main_v2}))) by decide,
    SparseCore.bigSep_insert' (by decide), SparseCore.bigSep_insert' (by decide), SparseCore.bigSep_insert' (by decide)]
  rfl

theorem unscoped_held (d : Dev nD) : (unscopedBufs d (fun b => m ((SparseCore.T d).loc b)) : sProp 𝕄) = held (T d) S9 (V0 m d) := by
  unfold unscopedBufs held
  rw [show S9 = (Finset.univ.filter fun b : Ref sig .tc => ¬ b.isScoped).map ⟨dr, Proc.devRef_injective (τ := τ) (sig := sig) Proc.tc⟩ by decide, bigSep_map]
  rfl

theorem V2_o (d : Dev nD) : V2 m d (dr main_v0) = fO m d :=
  (StableHlo.reshape_result_ne _ _ _ _ _ _ _ (show main_v0 ≠ main_v1 by decide)).trans (StableHlo.reshape_result _ _ _ _ _ _ _)
theorem V2_t (d : Dev nD) : V2 m d (dr main_v1) = fT m d :=
  (StableHlo.reshape_result _ _ _ _ _ _ _).trans
    (funext fun i => congrFun (StableHlo.reshape_result_ne _ _ _ _ _ _ (V0 m d) (show main_arg1 ≠ main_v0 by decide)) _)
theorem V2_of_ne (d : Dev nD) (b : Ref sig .tc) (h0 : b ≠ main_v0) (h1 : b ≠ main_v1) : V2 m d (dr b) = m (d, dr b) :=
  (StableHlo.reshape_result_ne _ _ _ _ _ _ _ h1).trans (StableHlo.reshape_result_ne _ _ _ _ _ _ _ h0)
theorem V2_r (d : Dev nD) : V2 m d (dr main_v2) = fR m d := V2_of_ne m d main_v2 (by decide) (by decide)
theorem V3_r (d : Dev nD) : V3 m d (dr main_v2) = fP m d := Function.update_self _ _ _
theorem V3_of_ne (d : Dev nD) (b : DevRef τ sig) (h : b ≠ dr main_v2) : V3 m d b = V2 m d b := Function.update_of_ne h _ _

theorem V7_of_ne (d : Dev nD) (b : Ref sig .tc) (h1 : b ≠ main_cst) (h2 : b ≠ main_v3) (h3 : b ≠ main_cst_0) (h4 : b ≠ main_v4) : V7 m d (dr b) = V3 m d (dr b) :=
  (StableHlo.binary_result_ne _ _ _ _ _ _ _ _ h4).trans ((StableHlo.nullary_result_ne _ _ _ _ h3).trans ((StableHlo.binary_result_ne _ _ _ _ _ _ _ _ h2).trans (StableHlo.nullary_result_ne _ _ _ _ h1)))
theorem V7_a (d : Dev nD) : V7 m d (dr main_arg0) = m (aLoc d) :=
  (V7_of_ne m d main_arg0 (by decide) (by decide) (by decide) (by decide)).trans ((V3_of_ne m d _ (by decide)).trans (V2_of_ne m d main_arg0 (by decide) (by decide)))
theorem V7_b (d : Dev nD) : V7 m d (dr main_arg1) = m (bLoc d) :=
  (V7_of_ne m d main_arg1 (by decide) (by decide) (by decide) (by decide)).trans ((V3_of_ne m d _ (by decide)).trans (V2_of_ne m d main_arg1 (by decide) (by decide)))
theorem V7_y (d : Dev nD) : V7 m d (dr main_v4) = outVal (m (aLoc d)) (m (bLoc d)) := by
  unfold V7
  rw [StableHlo.binary_result, StableHlo.nullary_result, StableHlo.nullary_result_ne _ _ _ _ (show main_v3 ≠ main_cst_0 by decide), StableHlo.binary_result,
    StableHlo.nullary_result, StableHlo.nullary_result_ne _ _ _ _ (show main_v2 ≠ main_cst by decide), V3_r]
  rfl

/-- The call's arrays put back among the rest. -/
theorem held_V3 (d : Dev nD) :
    iprop((oLoc d ↦{fullShare} (fO m d : Buf (Elt F) (oLoc d))) ∗ (tLoc d ↦{fullShare} (fT m d : Buf (Elt F) (tLoc d))) ∗ (rLoc d ↦{fullShare} (fP m d : Buf (Elt F) (rLoc d)))
      ∗ held (T d) (S9 \ {dr main_v0, dr main_v1, dr main_v2}) (V2 m d)) ⊢ (held (T d) S9 (V3 m d) : sProp 𝕄) := by
  rw [held_S9, V3_of_ne m d (dr main_v0) (by decide), V3_of_ne m d (dr main_v1) (by decide), V3_r, V2_o, V2_t,
    StableHlo.held_congr (T d) (fun b hb => V3_of_ne m d b (fun e => (Finset.mem_sdiff.mp hb).2 (e ▸ by simp)))]

/-- What @main leaves the claims: the arguments at their launch contents, the result at its value. -/
abbrev FIN (d : Dev nD) : sProp 𝕄 := iprop((aLoc d ↦{fullShare} m (aLoc d)) ∗ (bLoc d ↦{fullShare} m (bLoc d))
  ∗ yLoc d ↦{fullShare} (outVal (m (aLoc d)) (m (bLoc d)) : Buf (Elt F) (yLoc d)))

theorem held_V7 (d : Dev nD) : (held (T d) S9 (V7 m d) : sProp 𝕄) ⊢ FIN m d := by
  unfold held
  rw [show S9 = insert (dr main_arg0) (insert (dr main_arg1) (insert (dr main_v4) (S9 \ {dr main_arg0, dr main_arg1, dr main_v4}))) by decide,
    SparseCore.bigSep_insert' (by decide), SparseCore.bigSep_insert' (by decide), SparseCore.bigSep_insert' (by decide), V7_a, V7_b, V7_y]
  iintro ⟨Ha, Hb, Hy, -⟩
  isplitl [Ha]; · iexact Ha
  isplitl [Hb]; · iexact Hb
  iexact Hy

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, -⟩
  iapply (wp_hlo_within 𝒱 (SparseCore.T d) none Set.univ (op := opO) (S := S9) (show ({dr main_arg0, dr main_v0} : Finset (DevRef τ sig)) ⊆ S9 by decide) (V := V0 m d)) $$ [Hb Hh]
  · isplitl [Hb] <;> iassumption
  iintro ⟨Hb, Hh⟩
  rw [wp_ret]; imodintro
  iapply (wp_hlo_within 𝒱 (SparseCore.T d) none Set.univ (op := opT) (S := S9) (show ({dr main_arg1, dr main_v1} : Finset (DevRef τ sig)) ⊆ S9 by decide) (V := opO.result (V0 m d))) $$ [Hb Hh]
  · isplitl [Hb] <;> iassumption
  iintro ⟨Hb, Hh⟩
  rw [wp_ret]; imodintro
  ihave Hh' := (show held (T d) S9 (opT.result (opO.result (V0 m d))) ⊢ _ from Entails.of_eq (held_S9 (F := F) d (V2 m d))) $$ Hh
  rw [V2_o, V2_t, V2_r]
  icases Hh' with ⟨Ho, Ht, Hr, Hrest⟩
  iapply ((K (F := F)).wp_run (D (F := F)) 𝒱 (EH := EH) (P := P m) κ d 0) $$ [Hst Ho Ht Hr Hb Hrest Hts]
  isplitr; · iexact Hctx
  isplitl [Hst]; · iexact Hst
  isplitl [Ho Ht Hr]
  · rw [st0_eq]
    isplitl [Ho]; · iexact Ho
    isplitl [Ht]; · iexact Ht
    iexact Hr
  iintro ⟨Hst, Hdn⟩
  ihave Hdn' := (Entails.of_eq (dn0_eq m d)) $$ Hdn
  icases Hdn' with ⟨Ho, Ht, Hr⟩
  ihave Hh := (held_V3 (F := F) m d) $$ [Ho Ht Hr Hrest]
  · isplitl [Ho]; · iexact Ho
    isplitl [Ht]; · iexact Ht
    isplitl [Hr]; · iexact Hr
    iexact Hrest
  iapply (wp_hlo_within 𝒱 (SparseCore.T d) none Set.univ (op := opZero) (S := S9) (show ({dr main_cst} : Finset (DevRef τ sig)) ⊆ S9 by decide) (V := V3 m d)) $$ [Hb Hh]
  · isplitl [Hb] <;> iassumption
  iintro ⟨Hb, Hh⟩
  rw [wp_ret]; imodintro
  iapply (wp_hlo_within 𝒱 (SparseCore.T d) none Set.univ (op := opSum) (S := S9) (show ({dr main_v2, dr main_cst, dr main_v3} : Finset (DevRef τ sig)) ⊆ S9 by decide)
    (V := opZero.result (V3 m d))) $$ [Hb Hh]
  · isplitl [Hb] <;> iassumption
  iintro ⟨Hb, Hh⟩
  rw [wp_ret]; imodintro
  iapply (wp_hlo_within 𝒱 (SparseCore.T d) none Set.univ (op := opCount) (S := S9) (show ({dr main_cst_0} : Finset (DevRef τ sig)) ⊆ S9 by decide)
    (V := opSum.result (opZero.result (V3 m d)))) $$ [Hb Hh]
  · isplitl [Hb] <;> iassumption
  iintro ⟨Hb, Hh⟩
  rw [wp_ret]; imodintro
  iapply (wp_hlo_within 𝒱 (SparseCore.T d) none Set.univ (op := opDiv) (S := S9) (show ({dr main_v3, dr main_cst_0, dr main_v4} : Finset (DevRef τ sig)) ⊆ S9 by decide)
    (V := opCount.result (opSum.result (opZero.result (V3 m d))))) $$ [Hb Hh]
  · isplitl [Hb] <;> iassumption
  iintro ⟨Hb, Hh⟩
  rw [wp_ret]; imodintro; imodintro
  isplitl [Hst]; · iexact Hst
  isplitl [Hh]; · iapply (held_V7 m d); iexact Hh
  isplitl [Hb] <;> iassumption

/-! ## The program's run -/

def fq (d : Dev nD) (s' : Phys nD τ sig (Elt F)) : Prop :=
  s'.mem.mem (aLoc d) = m (aLoc d) ∧ s'.mem.mem (bLoc d) = m (bLoc d) ∧ s'.mem.mem (yLoc d) = outVal (m (aLoc d)) (m (bLoc d))

set_option maxRecDepth 16384 in
theorem hfin (d : Dev nD) (s' : Phys nD τ sig (Elt F)) : iprop(FIN m d ∗ SI s') ⊢ (⌜fq m d s'⌝ : sProp 𝕄) := by
  iintro ⟨⟨Ha, Hb, Hy⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hb]
  · isplitl [HSI] <;> iassumption
  icases H with ⟨%h2, HSI, -⟩
  ihave H := (SI_pointsTo_agree (st := s') (ℓ := yLoc d) (I := Finset.univ) (q := fullShare) (f := outVal (m (aLoc d)) (m (bLoc d)))) $$ [HSI Hy]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem (aLoc c) = m (aLoc c) ∧ r.2.mem (bLoc c) = m (bLoc c) ∧ r.2.mem (yLoc c) = outVal (m (aLoc c)) (m (bLoc c))) ∧ r.2.sem = fun _ => 0

/-- Every run of the program ends, nothing faulting: the arguments unchanged, the result at `outVal` of them, every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.KernelIdeal

end
-- ==== Proof.KernelIdeal.Sums.lean ====
/-
  The kernel's partial sums at the extended reals. Addition there is commutative and associative, so the 32 × 16 partial
  sums add up to one sum over every element of the two arrays: of the masked squared difference `q` of the two.
-/
module

public import proofs.«01_k».proof.Proof.KernelIdeal.Launch
public import Idealize.ShloMosaic.Lib.IdealHost
public import Idealize.ShloMosaic.Lib.ValueIdx
public import Idealize.ShloMosaic.Lib.Pointwise.Index
public import Idealize.ShloMosaic.PureOps.Ideal.Laws
public import Mathlib.Algebra.BigOperators.Fin
public import Mathlib.Tactic.Abel

@[expose] public section

noncomputable section

open scoped BigOperators

namespace Cert.Proof.KernelIdeal

open Cert.KernelIdeal Cert.KernelIdeal.Gen
open Idealize.ShloMosaic

/-! ## Sums in any commutative monoid -/

section Generic

variable {M : Type*} [AddCommMonoid M]

/-- What gains `g k` at step `k` has gained their sum. -/
theorem sum_of_steps (n : ℕ) (f : ℕ → M) (g : Fin n → M) (h : ∀ k : Fin n, f (k.val + 1) = f k.val + g k) :
    f n = f 0 + ∑ k : Fin n, g k := by
  induction n with
  | zero => simp
  | succ n ih =>
    rw [Fin.sum_univ_castSucc, ← add_assoc, ← ih (fun k => g k.castSucc) (fun k => h k.castSucc)]
    exact h (Fin.last n)

/-- A sum over `m * n` numbers, `n` at a time. -/
theorem sum_blocks (m n : ℕ) (f : ℕ → M) : ∑ i : Fin m, ∑ j : Fin n, f (n * i.val + j.val) = ∑ c : Fin (m * n), f c.val := by
  rw [← Equiv.sum_comp finProdFinEquiv, Fintype.sum_prod_type]
  refine Finset.sum_congr rfl fun i _ => Finset.sum_congr rfl fun j _ => congrArg f ?_
  show n * i.val + j.val = j.val + n * i.val
  exact Nat.add_comm _ _

/-- The outermost of five sums moved inmost. -/
theorem sum_inward {A B C D E : Type*} [Fintype A] [Fintype B] [Fintype C] [Fintype D] [Fintype E] (f : A → B → C → D → E → M) :
    ∑ a, ∑ b, ∑ c, ∑ d, ∑ e, f a b c d e = ∑ b, ∑ c, ∑ d, ∑ e, ∑ a, f a b c d e := by
  rw [Finset.sum_comm]; refine Finset.sum_congr rfl fun b _ => ?_
  rw [Finset.sum_comm]; refine Finset.sum_congr rfl fun c _ => ?_
  rw [Finset.sum_comm]; refine Finset.sum_congr rfl fun d _ => ?_
  rw [Finset.sum_comm]

/-- A function of the first 2048 numbers, summed over them. -/
theorem sum_ofNat (f : Fin 2048 → M) : ∑ c : Fin 2048, f (Fin.ofNat 2048 c.val) = ∑ c : Fin 2048, f c :=
  Finset.sum_congr rfl fun c _ => congrArg f (Fin.ext (Nat.mod_eq_of_lt c.isLt))

/-- The 2048 columns, as 16 blocks of 8 vectors of 16 lanes. -/
theorem sum_columns (f : Fin 2048 → M) :
    ∑ v : Fin 16, ∑ u : Fin 8, ∑ l : Fin 16, f (Fin.ofNat 2048 (v.val * 128 + 16 * u.val + l.val)) = ∑ c : Fin 2048, f c := by
  refine Eq.trans ?_ (sum_ofNat f)
  refine Eq.trans ?_ (sum_blocks 128 16 fun n => f (Fin.ofNat 2048 n))
  refine Eq.trans ?_ (sum_blocks 16 8 fun n => ∑ l : Fin 16, f (Fin.ofNat 2048 (16 * n + l.val)))
  refine Finset.sum_congr rfl fun v _ => Finset.sum_congr rfl fun u _ => Finset.sum_congr rfl fun l _ => ?_
  refine congrArg (fun n => f (Fin.ofNat 2048 n)) ?_
  omega

/-- The 2048 groups, 64 to each of 32 tiles. -/
theorem sum_groups (f : Fin 2048 → M) : ∑ w : Fin 32, ∑ k : Fin 64, f (Fin.ofNat 2048 (64 * w.val + k.val)) = ∑ g : Fin 2048, f g :=
  (sum_blocks 32 64 fun n => f (Fin.ofNat 2048 n)).trans (sum_ofNat f)

end Generic

/-! ## One tile -/

/-- The masked squared difference: the square of `o - t` where `|t| > 0`, zero elsewhere. -/
def q (o t : EReal) : EReal := if 0 < max t (-t) then (o - t) * (o - t) else 0

theorem zero16_apply (x : S16.Idx) : (zero16 (F := Ideal)) x = (0 : EReal) := Ideal.ofBits_zero_f32

theorem msq_apply (o t : FVec Ideal S16 .f32) (x : S16.Idx) : msq o t x = q (o x) (t x) := by
  have h : ∀ c : Prop, [Decidable c] → Scalar.select (BitVec.ofBool (decide c)) ((o x : EReal) - t x) 0 * Scalar.select (BitVec.ofBool (decide c)) ((o x : EReal) - t x) 0
      = if c then ((o x : EReal) - t x) * (o x - t x) else 0 := by
    intro c _; by_cases hc : c <;> simp [Scalar.select, hc]
  refine Eq.trans ?_ (h (0 < max (t x : EReal) (-(t x : EReal))))
  show Scalar.select (BitVec.ofBool (decide ((zero16 (F := Ideal)) x < max (t x : EReal) (-(t x : EReal))))) ((o x : EReal) - t x) ((zero16 (F := Ideal)) x)
    * Scalar.select (BitVec.ofBool (decide ((zero16 (F := Ideal)) x < max (t x : EReal) (-(t x : EReal))))) ((o x : EReal) - t x) ((zero16 (F := Ideal)) x) = _
  simp only [zero16_apply]

/-- The lane total of the eight vectors, as a sum of extended reals. -/
theorem total8_apply (a : Acc Ideal) (x : S16.Idx) :
    total8 a x = ((((((((a.1 x : EReal) + a.2.1 x) + a.2.2.1 x) + a.2.2.2.1 x) + a.2.2.2.2.1 x) + a.2.2.2.2.2.1 x) + a.2.2.2.2.2.2.1 x) + a.2.2.2.2.2.2.2 x : EReal) := rfl

theorem vstep_apply (a o t : FVec Ideal S16 .f32) (x : S16.Idx) : vstep a o t x = ((a x : EReal) + q (o x) (t x) : EReal) := by
  rw [← msq_apply]; rfl

/-- One pass adds the eight vectors' elements. -/
theorem total8_step8 (O T : Grp Ideal) (r : Fin 8) (v : Fin 16) (a : Acc Ideal) (x : S16.Idx) :
    total8 (step8 O T r v a) x = (total8 a x + ∑ u : Fin 8, q (O (cell r v u x)) (T (cell r v u x)) : EReal) := by
  rw [total8_apply, total8_apply, Fin.sum_univ_eight]
  unfold step8
  simp only [vstep_apply, seg]
  abel

/-- One row adds its elements. -/
theorem total8_row (O T : Grp Ideal) (r : Fin 8) (a : Acc Ideal) (x : S16.Idx) :
    total8 (rowIter O T r a 16) x = (total8 a x + ∑ v : Fin 16, ∑ u : Fin 8, q (O (cell r v u x)) (T (cell r v u x)) : EReal) :=
  sum_of_steps (M := EReal) 16 (fun k => total8 (rowIter O T r a k) x) _ fun k => by
    rw [rowIter_succ O T r a k.val k.isLt]; exact total8_step8 O T r k _ x

/-- One group adds its elements. -/
theorem total8_chunk (O T : Grp Ideal) (a : Acc Ideal) (x : S16.Idx) :
    total8 (chunk O T a) x = (total8 a x + ∑ r : Fin 8, ∑ v : Fin 16, ∑ u : Fin 8, q (O (cell r v u x)) (T (cell r v u x)) : EReal) :=
  sum_of_steps (M := EReal) 8 (fun k => total8 (chunkIter O T a k) x) _ fun k => by
    rw [chunkIter_succ O T a k.val k.isLt]; exact total8_row O T k _ x

/-- A tile's first `n` groups add up to their elements. -/
theorem total8_grp (O T : ℕ → Grp Ideal) (n : ℕ) (x : S16.Idx) :
    total8 (grpIter O T n) x
      = (∑ k : Fin n, ∑ r : Fin 8, ∑ v : Fin 16, ∑ u : Fin 8, q (O k.val (cell r v u x)) (T k.val (cell r v u x)) : EReal) := by
  have h := sum_of_steps (M := EReal) n (fun k => total8 (grpIter O T k) x)
    (fun k => ∑ r : Fin 8, ∑ v : Fin 16, ∑ u : Fin 8, q (O k.val (cell r v u x)) (T k.val (cell r v u x)))
    fun k => total8_chunk (O k.val) (T k.val) _ x
  refine h.trans ?_
  have h0 : (total8 (grpIter O T 0) x : EReal) = 0 := by
    rw [total8_apply]; simp only [grpIter, zero16_apply, add_zero]
  show (total8 (grpIter O T 0) x : EReal) + _ = _
  rw [h0, zero_add]

/-! ## The whole result -/

/-- The masked squared difference at each element of two grouped arrays. -/
def qAt (o t : S2048x8x2048.Idx → EReal) (i : S2048x8x2048.Idx) : EReal := q (o i) (t i)

/-- An element of a group is the array's. -/
theorem grpAt_cell (f : S2048x8x2048.Idx → EReal) (n : ℕ) (r : Fin 8) (v : Fin 16) (u : Fin 8) (l : Fin 16) :
    grpAt (F := Ideal) f n (cell r v u (lane l)) = f (ix3 (n0 := 2048) (n1 := 8) (n2 := 2048) (Fin.ofNat 2048 n) r (Fin.ofNat 2048 (v.val * 128 + 16 * u.val + l.val))) := by
  refine congrArg f (funext fun d => ?_)
  match d with
  | 0 => rfl
  | 1 => rfl
  | 2 =>
    refine Fin.ext ?_
    show v.val * 128 + 16 * u.val + l.val = (v.val * 128 + 16 * u.val + l.val) % 2048
    exact (Nat.mod_eq_of_lt (by have := v.isLt; have := u.isLt; have := l.isLt; omega)).symm

/-- All the partial sums add up to all the elements. -/
theorem sum_partials (o t : S2048x8x2048.Idx → EReal) :
    ∑ x : S32x16.Idx, (partials (F := Ideal) o t x : EReal) = ∑ i : S2048x8x2048.Idx, q (o i) (t i) := by
  rw [show (∑ x : S32x16.Idx, (partials (F := Ideal) o t x : EReal)) = ∑ w : Fin 32, ∑ l : Fin 16, (partials (F := Ideal) o t (ix2 (n0 := 32) (n1 := 16) w l) : EReal) from sum_idx2 _,
    show (∑ i : S2048x8x2048.Idx, q (o i) (t i)) = ∑ g : Fin 2048, ∑ r : Fin 8, ∑ c : Fin 2048, qAt o t (ix3 (n0 := 2048) (n1 := 8) (n2 := 2048) g r c) from sum_idx3 _,
    ← sum_groups]
  refine Finset.sum_congr rfl fun w _ => ?_
  refine Eq.trans (Finset.sum_congr rfl fun l _ => total8_grp _ _ 64 (lane l)) ?_
  rw [sum_inward]
  refine Finset.sum_congr rfl fun k _ => Finset.sum_congr rfl fun r _ => ?_
  rw [← sum_columns]
  refine Finset.sum_congr rfl fun v _ => Finset.sum_congr rfl fun u _ => Finset.sum_congr rfl fun l _ => ?_
  unfold qAt
  exact congrArg₂ q (grpAt_cell o _ r v u l) (grpAt_cell t _ r v u l)

end Cert.Proof.KernelIdeal

end
-- ==== Proof.KernelIdeal.Equation.lean ====
/-
  The kernel's result at the extended reals is the reference's. The kernel squares `o - t` where `|t| > 0` and takes zero
  elsewhere; the reference puts `t` in place of `o` elsewhere, where `t` is zero, and squares the difference. The two
  agree element by element, so the two sums do, and both are divided by the same number of elements.
-/
module

public import proofs.«01_k».proof.Proof.KernelIdeal.Sums
public import proofs.«01_k».proof.Proof.Gen.ReferenceIdeal.Run

@[expose] public section

noncomputable section

open scoped BigOperators

namespace Cert.Proof.KernelIdeal

open Idealize.ShloMosaic

/-- Where `|t| > 0` fails, `t` is zero. -/
theorem eq_zero_of_not_pos (t : EReal) (h : ¬ 0 < max t (-t)) : t = 0 := by
  have h1 := max_le_iff.1 (not_lt.1 h)
  exact le_antisymm h1.1 (EReal.neg_le_neg_iff.1 (by rw [neg_zero]; exact h1.2))

/-- The difference the reference squares, at each element. -/
def refDiff (o t : Cert.ReferenceIdeal.S4x4096x2048.Idx → EReal) : Cert.ReferenceIdeal.S4x4096x2048.Idx → EReal :=
  subf (F := Ideal) (φ := .f32) (select (cmpf (F := Ideal) (φ := .f32) .ogt (Host.absf (F := Ideal) (φ := .f32) t)
    (broadcastInDim Cert.ReferenceIdeal.S4x4096x2048 ![] Cert.ReferenceIdeal.Gen.bcast_S_S4x4096x2048 (constant (F := Ideal) Cert.ReferenceIdeal.S_ .f32 0x00000000#32))) o t) t

/-- Its square is the masked squared difference. -/
theorem refDiff_sq (o t : Cert.ReferenceIdeal.S4x4096x2048.Idx → EReal) (i : Cert.ReferenceIdeal.S4x4096x2048.Idx) :
    refDiff o t i * refDiff o t i = q (o i) (t i) := by
  have hz : broadcastInDim Cert.ReferenceIdeal.S4x4096x2048 ![] Cert.ReferenceIdeal.Gen.bcast_S_S4x4096x2048 (constant (F := Ideal) Cert.ReferenceIdeal.S_ .f32 0x00000000#32) i = (0 : EReal) :=
    (ValueIdx.broadcastInDim_scalar_apply _ _ _).trans Ideal.ofBits_zero_f32
  have hd : refDiff o t i = Scalar.select (BitVec.ofBool (decide (0 < max (t i) (-(t i))))) (o i) (t i) - t i := by
    rw [← hz]; rfl
  rw [hd]; unfold q
  by_cases h : 0 < max (t i) (-(t i))
  · simp [Scalar.select, h]
  · have ht := eq_zero_of_not_pos _ h
    simp [Scalar.select, ht]

/-- The reference's result. -/
def refVal (o t : Cert.ReferenceIdeal.S4x4096x2048.Idx → EReal) : Cert.ReferenceIdeal.S_.Idx → EReal :=
  Host.divf (F := Ideal) (φ := .f32) (Host.reduceAdd (F := Ideal) (φ := .f32) (mulf (F := Ideal) (φ := .f32) (refDiff o t) (refDiff o t)) (constant (F := Ideal) Cert.ReferenceIdeal.S_ .f32 0x00000000#32)
    Cert.ReferenceIdeal.Gen.reducesTo_S4x4096x2048_S_d0_1_2 Cert.ReferenceIdeal.Gen.h_S_) (constant (F := Ideal) Cert.ReferenceIdeal.S_ .f32 0x4C000000#32)

/-- The kernel's result is the reference's. -/
theorem outVal_eq_refVal (o t : Cert.KernelIdeal.S4x4096x2048.Idx → EReal) : outVal (F := Ideal) o t = refVal o t := by
  funext j
  have hk : Host.reduceAdd (F := Ideal) (φ := .f32) (partials (groups (F := Ideal) o) (groups (F := Ideal) t)) (constant (F := Ideal) Cert.KernelIdeal.S_ .f32 0x00000000#32)
      Cert.KernelIdeal.Gen.reducesTo_S32x16_S_d0_1 Cert.KernelIdeal.Gen.h_S_ j
      = (Ideal.ofBits .f32 0x00000000#32 + ∑ i : Cert.KernelIdeal.S4x4096x2048.Idx, q (o i) (t i) : EReal) := by
    rw [ValueIdx.hostReduceAdd_apply, Ideal.hostReduceAdd_total _ (fun b => b.elim0), sum_partials]
    refine congrArg₂ (· + ·) rfl ?_
    exact Equiv.sum_comp (Shape.reshapeEquiv Cert.KernelIdeal.Gen.shapeCasts_S4x4096x2048_S2048x8x2048) fun i => q (o i) (t i)
  have hr : Host.reduceAdd (F := Ideal) (φ := .f32) (mulf (F := Ideal) (φ := .f32) (refDiff o t) (refDiff o t)) (constant (F := Ideal) Cert.ReferenceIdeal.S_ .f32 0x00000000#32)
      Cert.ReferenceIdeal.Gen.reducesTo_S4x4096x2048_S_d0_1_2 Cert.ReferenceIdeal.Gen.h_S_ j
      = (Ideal.ofBits .f32 0x00000000#32 + ∑ i : Cert.KernelIdeal.S4x4096x2048.Idx, q (o i) (t i) : EReal) := by
    rw [ValueIdx.hostReduceAdd_apply, Ideal.hostReduceAdd_total _ (fun b => b.elim0)]
    exact congrArg₂ (· + ·) rfl (Finset.sum_congr rfl fun i _ => refDiff_sq o t i)
  unfold outVal refVal
  rw [ValueIdx.hostDivf_apply, ValueIdx.hostDivf_apply]
  exact congrArg₂ Ideal.div (hk.trans hr.symm) rfl

end Cert.Proof.KernelIdeal

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Kernel.Launch
public import proofs.«01_k».proof.Proof.KernelIdeal.Equation
public import Idealize.ShloMosaic.Adequacy
public import Idealize.ShloMosaic.Init

@[expose] public section

noncomputable section

namespace Cert.Proof

open Idealize.ShloMosaic Idealize.SL.Sem Cert.Kernel

/-- The kernel runs and leaves its arguments and its counters as they were. -/
theorem frame_kernel : Cert.quiescent_Kernel (hKernel := Cert.Kernel.Gen.facts) := fun m g _ =>
  (θ_run _ _ _).mono (fun _ h => ⟨fun c => ⟨(h.1 c).1, (h.1 c).2.1⟩, h.2⟩) (Cert.Proof.Kernel.run_main (F := Bits) m g)

/-- So does the same kernel over the extended reals. -/
theorem frame_kernelIdeal : Cert.quiescent_KernelIdeal (hKernelIdeal := Cert.KernelIdeal.Gen.facts) := fun m g _ =>
  (θ_run _ _ _).mono (fun _ h => ⟨fun c => ⟨(h.1 c).1, (h.1 c).2.1⟩, h.2⟩) (Cert.Proof.KernelIdeal.run_main (F := Ideal) m g)

/-- So does the reference. -/
theorem frame_referenceIdeal : Cert.quiescent_ReferenceIdeal (hReferenceIdeal := Cert.ReferenceIdeal.Gen.facts) := fun m g _ =>
  (θ_run _ _ _).mono (fun r h => ⟨fun c => (h c).2, Idealize.ShloMosaic.sem_eq_zero_of_no_sems (by decide) r.2⟩)
    (Cert.ReferenceIdeal.Value.run (F := Ideal) m g)

/-- The kernel's result and the reference's are equal over the extended reals. -/
theorem values_equal : Cert.algebraic_KernelIdeal_ReferenceIdeal (hKernelIdeal := Cert.KernelIdeal.Gen.facts) (hReferenceIdeal := Cert.ReferenceIdeal.Gen.facts) := by
  intro m g m' g' _ hargs
  refine ⟨fun c => Cert.Proof.KernelIdeal.outVal (F := Ideal) (m (Cert.Proof.KernelIdeal.aLoc c)) (m (Cert.Proof.KernelIdeal.bLoc c)), ?_, ?_⟩
  · exact (θ_run _ _ _).mono (fun _ h c => ⟨(h.1 c).2.2, (h.1 c).1, (h.1 c).2.1⟩) (Cert.Proof.KernelIdeal.run_main (F := Ideal) m g)
  · refine (θ_run _ _ _).mono (fun r h c => ⟨(h c).1.trans ?_, (h c).2⟩) (Cert.ReferenceIdeal.Value.run (F := Ideal) m' g')
    refine Eq.trans ?_ (Cert.Proof.KernelIdeal.outVal_eq_refVal _ _).symm
    exact congrArg₂ Cert.Proof.KernelIdeal.refVal (hargs c).1 (hargs c).2

/-- Everything the certificate claims. -/
theorem claim : Cert.Claim :=
  ⟨Cert.Kernel.Gen.facts, Cert.KernelIdeal.Gen.facts, Cert.ReferenceIdeal.Gen.facts,
    frame_kernel, frame_kernelIdeal, frame_referenceIdeal, trivial, values_equal⟩

end Cert.Proof

end
